-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_dh" .f32 0x3DB504F3#32 (((Real.sqrt 128)⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![4096, 8, 128]⟩ ⟨3, ![16384, 8, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4096, 8, 128]⟩ ⟨3, ![16384, 8, 128]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S256x1024 : Shape := ⟨2, ![256, 1024]⟩
abbrev S1024x1024 : Shape := ⟨2, ![1024, 1024]⟩
abbrev S4096x8x128 : Shape := ⟨3, ![4096, 8, 128]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn {F : FTy → Type} [FloatOps F] (main_arg0 : FVec F S256x1024 .f32) (main_arg1 : FVec F S1024x1024 .f32) (main_arg2 : FVec F S4096x8x128 .f32) (main_arg3 : FVec F S4096x8x128 .f32) (main_arg4 : FVec F S1024x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  main_v13
-- ==== Pre_scores_finite_ReferenceIdeal.lean ====
abbrev S256x1024 : Shape := ⟨2, ![256, 1024]⟩
abbrev S1024x1024 : Shape := ⟨2, ![1024, 1024]⟩
abbrev S16384x8x128 : Shape := ⟨3, ![16384, 8, 128]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16384x8x128 : S_.BroadcastsInDim S16384x8x128 (![] : Fin 0 → Fin S16384x8x128.rank)
  reducesTo_S16384x8x128_S_d0_1_2 : S16384x8x128.ReducesTo [0, 1, 2] S_

variable [Facts]

def fn {F : FTy → Type} [FloatOps F] (main_arg0 : FVec F S256x1024 .f32) (main_arg1 : FVec F S1024x1024 .f32) (main_arg2 : FVec F S16384x8x128 .f32) (main_arg3 : FVec F S16384x8x128 .f32) (main_arg4 : FVec F S1024x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S16384x8x128 .f32 := Host.absf main_arg2
  let main_cst_2 : FVec F S_ .f32 := constant S_ .f32 0x7F800000#32
  let main_v10 : FVec F S16384x8x128 .f32 := broadcastInDim S16384x8x128 ![] bcast_S_S16384x8x128 main_cst_2
  let main_v11 : IVec S16384x8x128 1 := cmpf .olt main_v9 main_v10
  let main_c_3 : IVec S_ 1 := constantI S_ 1 1#1
  let main_v12 : IVec S_ 1 := (fun x v => Host.reduce IntOp.andi x v reducesTo_S16384x8x128_S_d0_1_2 h_S_) main_v11 main_c_3
  let main_v13 : IVec S_ 1 := andi main_v8 main_v12
  main_v13
-- ==== Kernel.lean ====
abbrev S256x1024 : Shape := ⟨2, ![256, 1024]⟩
abbrev S1024x1024 : Shape := ⟨2, ![1024, 1024]⟩
abbrev S4096x8x128 : Shape := ⟨3, ![4096, 8, 128]⟩
abbrev S4x8x256x128 : Shape := ⟨4, ![4, 8, 256, 128]⟩
abbrev S4x8x256 : Shape := ⟨3, ![4, 8, 256]⟩
abbrev S3x4096x128 : Shape := ⟨3, ![3, 4096, 128]⟩
abbrev S3 : Shape := ⟨1, ![3]⟩
abbrev S3x5 : Shape := ⟨2, ![3, 5]⟩
abbrev S3x2 : Shape := ⟨2, ![3, 2]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S4096x1x128 : Shape := ⟨3, ![4096, 1, 128]⟩
abbrev S256x1 : Shape := ⟨2, ![256, 1]⟩
abbrev S256x128 : Shape := ⟨2, ![256, 128]⟩
abbrev S256x4096 : Shape := ⟨2, ![256, 4096]⟩
abbrev S256 : Shape := ⟨1, ![256]⟩
abbrev S1x1x256x128 : Shape := ⟨4, ![1, 1, 256, 128]⟩
abbrev S1x256 : Shape := ⟨2, ![1, 256]⟩
abbrev S1x1x256 : Shape := ⟨3, ![1, 1, 256]⟩
abbrev S1x1 : Shape := ⟨2, ![1, 1]⟩
abbrev S1x2x256x128 : Shape := ⟨4, ![1, 2, 256, 128]⟩
abbrev S2x256x128 : Shape := ⟨3, ![2, 256, 128]⟩
abbrev S1x4x256 : Shape := ⟨3, ![1, 4, 256]⟩
abbrev S4x256 : Shape := ⟨2, ![4, 256]⟩
abbrev S4x1024 : Shape := ⟨2, ![4, 1024]⟩
abbrev S128x1024 : Shape := ⟨2, ![128, 1024]⟩
abbrev S1x256x128 : Shape := ⟨3, ![1, 256, 128]⟩

abbrev nBuf : Space → Nat
  | .hbm => 6
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S4096x8x128, .f32⟩
  | .hbm, ⟨3, _⟩ => ⟨S4096x8x128, .f32⟩
  | .hbm, ⟨4, _⟩ => ⟨S1024x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S4x8x256x128, .bf16⟩
  | .local _ .vmem, ⟨5, _⟩ => ⟨S4x8x256, .f32⟩
  | .local _ .vmem, ⟨6, _⟩ => ⟨S3x4096x128, .f32⟩
  | .local _ .vmem, ⟨7, _⟩ => ⟨S3x4096x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v28 : BitVec 32 := Scalar.addi v2 c1_i32_27
  let c4_i32_28 : BitVec 32 := 4#32
  let v29 : BitVec 32 := Scalar.remsi v28 c4_i32_28
  let c1_i32_30 : BitVec 32 := 1#32
  let v30 : BitVec 32 := Scalar.muli v29 c1_i32_30
  let v31 : BitVec 32 := Scalar.addi c0_i32_31 v30
  v31.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v32 : BitVec 32 := Scalar.addi v2 c2_i32
  let c4_i32_32 : BitVec 32 := 4#32
  let v33 : BitVec 32 := Scalar.remsi v32 c4_i32_32
  let c1_i32_34 : BitVec 32 := 1#32
  let v34 : BitVec 32 := Scalar.muli v33 c1_i32_34
  let v35 : BitVec 32 := Scalar.addi c0_i32_35 v34
  v35.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v36 : BitVec 32 := Scalar.addi v2 c3_i32
  let c4_i32_36 : BitVec 32 := 4#32
  let v37 : BitVec 32 := Scalar.remsi v36 c4_i32_36
  let c1_i32_38 : BitVec 32 := 1#32
  let v38 : BitVec 32 := Scalar.muli v37 c1_i32_38
  let v39 : BitVec 32 := Scalar.addi c0_i32_39 v38
  v39.toNat
def k0_dev4 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_139 : BitVec 32 := 1#32
  let v157 : BitVec 32 := Scalar.addi v2 c1_i32_139
  let c4_i32_140 : BitVec 32 := 4#32
  let v158 : BitVec 32 := Scalar.remsi v157 c4_i32_140
  let c1_i32_147 : BitVec 32 := 1#32
  let v159 : BitVec 32 := Scalar.muli v158 c1_i32_147
  let v160 : BitVec 32 := Scalar.addi c0_i32_148 v159
  v160.toNat
def k0_dev5 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_155 : BitVec 32 := 2#32
  let v169 : BitVec 32 := Scalar.addi v2 c2_i32_155
  let c4_i32_156 : BitVec 32 := 4#32
  let v170 : BitVec 32 := Scalar.remsi v169 c4_i32_156
  let c1_i32_163 : BitVec 32 := 1#32
  let v171 : BitVec 32 := Scalar.muli v170 c1_i32_163
  let v172 : BitVec 32 := Scalar.addi c0_i32_164 v171
  v172.toNat
def k0_dev6 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_171 : BitVec 32 := 3#32
  let v181 : BitVec 32 := Scalar.addi v2 c3_i32_171
  let c4_i32_172 : BitVec 32 := 4#32
  let v182 : BitVec 32 := Scalar.remsi v181 c4_i32_172
  let c1_i32_179 : BitVec 32 := 1#32
  let v183 : BitVec 32 := Scalar.muli v182 c1_i32_179
  let v184 : BitVec 32 := Scalar.addi c0_i32_180 v183
  v184.toNat
def k0_dev7 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_276 : BitVec 32 := 1#32
  let v297 : BitVec 32 := Scalar.addi v2 c1_i32_276
  let c4_i32_277 : BitVec 32 := 4#32
  let v298 : BitVec 32 := Scalar.remsi v297 c4_i32_277
  let c1_i32_284 : BitVec 32 := 1#32
  let v299 : BitVec 32 := Scalar.muli v298 c1_i32_284
  let v300 : BitVec 32 := Scalar.addi c0_i32_285 v299
  v300.toNat
def k0_dev8 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_292 : BitVec 32 := 2#32
  let v309 : BitVec 32 := Scalar.addi v2 c2_i32_292
  let c4_i32_293 : BitVec 32 := 4#32
  let v310 : BitVec 32 := Scalar.remsi v309 c4_i32_293
  let c1_i32_300 : BitVec 32 := 1#32
  let v311 : BitVec 32 := Scalar.muli v310 c1_i32_300
  let v312 : BitVec 32 := Scalar.addi c0_i32_301 v311
  v312.toNat
def k0_dev9 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_308 : BitVec 32 := 3#32
  let v321 : BitVec 32 := Scalar.addi v2 c3_i32_308
  let c4_i32_309 : BitVec 32 := 4#32
  let v322 : BitVec 32 := Scalar.remsi v321 c4_i32_309
  let c1_i32_316 : BitVec 32 := 1#32
  let v323 : BitVec 32 := Scalar.muli v322 c1_i32_316
  let v324 : BitVec 32 := Scalar.addi c0_i32_317 v323
  v324.toNat
def k0_dev10 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_324 : BitVec 32 := 1#32
  let v333 : BitVec 32 := Scalar.addi v2 c1_i32_324
  let c4_i32_325 : BitVec 32 := 4#32
  let v334 : BitVec 32 := Scalar.remsi v333 c4_i32_325
  let c1_i32_332 : BitVec 32 := 1#32
  let v335 : BitVec 32 := Scalar.muli v334 c1_i32_332
  let v336 : BitVec 32 := Scalar.addi c0_i32_333 v335
  v336.toNat
def k0_dev11 (d0 : Dev nD) : Nat :=
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_338 : BitVec 32 := 2#32
  let v345 : BitVec 32 := Scalar.addi v2 c2_i32_338
  let c4_i32_339 : BitVec 32 := 4#32
  let v346 : BitVec 32 := Scalar.remsi v345 c4_i32_339
  let c1_i32_346 : BitVec 32 := 1#32
  let v347 : BitVec 32 := Scalar.muli v346 c1_i32_346
  let v348 : BitVec 32 := Scalar.addi c0_i32_347 v347
  v348.toNat
def k0_dev12 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_352 : BitVec 32 := 3#32
  let v357 : BitVec 32 := Scalar.addi v2 c3_i32_352
  let c4_i32_353 : BitVec 32 := 4#32
  let v358 : BitVec 32 := Scalar.remsi v357 c4_i32_353
  let c1_i32_360 : BitVec 32 := 1#32
  let v359 : BitVec 32 := Scalar.muli v358 c1_i32_360
  let v360 : BitVec 32 := Scalar.addi c0_i32_361 v359
  v360.toNat
def k0_dev13 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_454 : BitVec 32 := 1#32
  let v473 : BitVec 32 := Scalar.addi v2 c1_i32_454
  let c4_i32_455 : BitVec 32 := 4#32
  let v474 : BitVec 32 := Scalar.remsi v473 c4_i32_455
  let c1_i32_462 : BitVec 32 := 1#32
  let v475 : BitVec 32 := Scalar.muli v474 c1_i32_462
  let v476 : BitVec 32 := Scalar.addi c0_i32_463 v475
  v476.toNat
def k0_dev14 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_470 : BitVec 32 := 2#32
  let v485 : BitVec 32 := Scalar.addi v2 c2_i32_470
  let c4_i32_471 : BitVec 32 := 4#32
  let v486 : BitVec 32 := Scalar.remsi v485 c4_i32_471
  let c1_i32_478 : BitVec 32 := 1#32
  let v487 : BitVec 32 := Scalar.muli v486 c1_i32_478
  let v488 : BitVec 32 := Scalar.addi c0_i32_479 v487
  v488.toNat
def k0_dev15 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_486 : BitVec 32 := 3#32
  let v497 : BitVec 32 := Scalar.addi v2 c3_i32_486
  let c4_i32_487 : BitVec 32 := 4#32
  let v498 : BitVec 32 := Scalar.remsi v497 c4_i32_487
  let c1_i32_494 : BitVec 32 := 1#32
  let v499 : BitVec 32 := Scalar.muli v498 c1_i32_494
  let v500 : BitVec 32 := Scalar.addi c0_i32_495 v499
  v500.toNat
def k0_dev16 (d0 : Dev nD) : Nat :=
  let c0_i32_874 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_865 : BitVec 32 := 1#32
  let v867 : BitVec 32 := Scalar.addi v2 c1_i32_865
  let c4_i32_866 : BitVec 32 := 4#32
  let v868 : BitVec 32 := Scalar.remsi v867 c4_i32_866
  let c1_i32_873 : BitVec 32 := 1#32
  let v869 : BitVec 32 := Scalar.muli v868 c1_i32_873
  let v870 : BitVec 32 := Scalar.addi c0_i32_874 v869
  v870.toNat
def k0_dev17 (d0 : Dev nD) : Nat :=
  let c0_i32_890 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_881 : BitVec 32 := 2#32
  let v879 : BitVec 32 := Scalar.addi v2 c2_i32_881
  let c4_i32_882 : BitVec 32 := 4#32
  let v880 : BitVec 32 := Scalar.remsi v879 c4_i32_882
  let c1_i32_889 : BitVec 32 := 1#32
  let v881 : BitVec 32 := Scalar.muli v880 c1_i32_889
  let v882 : BitVec 32 := Scalar.addi c0_i32_890 v881
  v882.toNat
def k0_dev18 (d0 : Dev nD) : Nat :=
  let c0_i32_906 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_897 : BitVec 32 := 3#32
  let v891 : BitVec 32 := Scalar.addi v2 c3_i32_897
  let c4_i32_898 : BitVec 32 := 4#32
  let v892 : BitVec 32 := Scalar.remsi v891 c4_i32_898
  let c1_i32_905 : BitVec 32 := 1#32
  let v893 : BitVec 32 := Scalar.muli v892 c1_i32_905
  let v894 : BitVec 32 := Scalar.addi c0_i32_906 v893
  v894.toNat
def k0_dev19 (d0 : Dev nD) : Nat :=
  let c0_i32_951 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_942 : BitVec 32 := 1#32
  let v941 : BitVec 32 := Scalar.addi v2 c1_i32_942
  let c4_i32_943 : BitVec 32 := 4#32
  let v942 : BitVec 32 := Scalar.remsi v941 c4_i32_943
  let c1_i32_950 : BitVec 32 := 1#32
  let v943 : BitVec 32 := Scalar.muli v942 c1_i32_950
  let v944 : BitVec 32 := Scalar.addi c0_i32_951 v943
  v944.toNat
def k0_dev20 (d0 : Dev nD) : Nat :=
  let c0_i32_967 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_958 : BitVec 32 := 2#32
  let v953 : BitVec 32 := Scalar.addi v2 c2_i32_958
  let c4_i32_959 : BitVec 32 := 4#32
  let v954 : BitVec 32 := Scalar.remsi v953 c4_i32_959
  let c1_i32_966 : BitVec 32 := 1#32
  let v955 : BitVec 32 := Scalar.muli v954 c1_i32_966
  let v956 : BitVec 32 := Scalar.addi c0_i32_967 v955
  v956.toNat
def k0_dev21 (d0 : Dev nD) : Nat :=
  let c0_i32_983 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_974 : BitVec 32 := 3#32
  let v965 : BitVec 32 := Scalar.addi v2 c3_i32_974
  let c4_i32_975 : BitVec 32 := 4#32
  let v966 : BitVec 32 := Scalar.remsi v965 c4_i32_975
  let c1_i32_982 : BitVec 32 := 1#32
  let v967 : BitVec 32 := Scalar.muli v966 c1_i32_982
  let v968 : BitVec 32 := Scalar.addi c0_i32_983 v967
  v968.toNat
def k0_dev22 (d0 : Dev nD) : Nat :=
  let c0_i32_999 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_990 : BitVec 32 := 1#32
  let v977 : BitVec 32 := Scalar.addi v2 c1_i32_990
  let c4_i32_991 : BitVec 32 := 4#32
  let v978 : BitVec 32 := Scalar.remsi v977 c4_i32_991
  let c1_i32_998 : BitVec 32 := 1#32
  let v979 : BitVec 32 := Scalar.muli v978 c1_i32_998
  let v980 : BitVec 32 := Scalar.addi c0_i32_999 v979
  v980.toNat
def k0_dev23 (d0 : Dev nD) : Nat :=
  let c0_i32_1013 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1004 : BitVec 32 := 2#32
  let v989 : BitVec 32 := Scalar.addi v2 c2_i32_1004
  let c4_i32_1005 : BitVec 32 := 4#32
  let v990 : BitVec 32 := Scalar.remsi v989 c4_i32_1005
  let c1_i32_1012 : BitVec 32 := 1#32
  let v991 : BitVec 32 := Scalar.muli v990 c1_i32_1012
  let v992 : BitVec 32 := Scalar.addi c0_i32_1013 v991
  v992.toNat
def k0_dev24 (d0 : Dev nD) : Nat :=
  let c0_i32_1027 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1018 : BitVec 32 := 3#32
  let v1001 : BitVec 32 := Scalar.addi v2 c3_i32_1018
  let c4_i32_1019 : BitVec 32 := 4#32
  let v1002 : BitVec 32 := Scalar.remsi v1001 c4_i32_1019
  let c1_i32_1026 : BitVec 32 := 1#32
  let v1003 : BitVec 32 := Scalar.muli v1002 c1_i32_1026
  let v1004 : BitVec 32 := Scalar.addi c0_i32_1027 v1003
  v1004.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_dh" => some (((Real.sqrt 128)⁻¹ : ℝ) : EReal)
  | _ => none
-- ==== ReferenceIdeal.lean ====
abbrev S256x1024 : Shape := ⟨2, ![256, 1024]⟩
abbrev S1024x1024 : Shape := ⟨2, ![1024, 1024]⟩
abbrev S16384x8x128 : Shape := ⟨3, ![16384, 8, 128]⟩
abbrev S256x8x128 : Shape := ⟨3, ![256, 8, 128]⟩
abbrev S8x256x16384 : Shape := ⟨3, ![8, 256, 16384]⟩
abbrev S_ : Shape := ⟨0, ![]⟩
abbrev S8x256 : Shape := ⟨2, ![8, 256]⟩
abbrev S8x256x1 : Shape := ⟨3, ![8, 256, 1]⟩
abbrev S8x128x256 : Shape := ⟨3, ![8, 128, 256]⟩
abbrev S256x8x1 : Shape := ⟨3, ![256, 8, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S16384x8x128, .f32⟩
  | .hbm, ⟨3, _⟩ => ⟨S16384x8x128, .f32⟩
  | .hbm, ⟨4, _⟩ => ⟨S1024x1024, .f32⟩
  | .hbm, ⟨5, _⟩ => ⟨S256x1024, .f32⟩
  | .hbm, ⟨6, _⟩ => ⟨S256x8x128, .f32⟩
  | .hbm, ⟨7, _⟩ => ⟨S8x256x16384, .f32⟩
  | .hbm, ⟨8, _⟩ => ⟨S_, .f32⟩
  | .hbm, ⟨9, _⟩ => ⟨S_, .f32⟩
  | .hbm, ⟨10, _⟩ => ⟨S8x256x16384, .f32⟩
  | .hbm, ⟨11, _⟩ => ⟨S8x256x16384, .f32⟩
  | .hbm, ⟨12, _⟩ => ⟨S_, .f32⟩
  | .hbm, ⟨13, _⟩ => ⟨S8x256, .f32⟩
  | .hbm, ⟨14, _⟩ => ⟨S8x256x1, .f32⟩
  | .hbm, ⟨15, _⟩ => ⟨S8x256x16384, .f32⟩
  | .hbm, ⟨16, _⟩ => ⟨S8x256x16384, .f32⟩
  | .hbm, ⟨17, _⟩ => ⟨S8x256x16384, .f32⟩
  | .hbm, ⟨18, _⟩ => ⟨S_, .f32⟩
  | .hbm, ⟨19, _⟩ => ⟨S8x256, .f32⟩
  | .hbm, ⟨20, _⟩ => ⟨S8x256x1, .f32⟩
  | .hbm, ⟨21, _⟩ => ⟨S8x128x256, .f32⟩
  | .hbm, ⟨22, _⟩ => ⟨S256x8x128, .f32⟩
  | .hbm, ⟨23, _⟩ => ⟨S256x8x1, .f32⟩
  | .hbm, ⟨24, _⟩ => ⟨S256x8x128, .f32⟩
  | .hbm, ⟨25, _⟩ => ⟨S256x8x128, .f32⟩
  | .hbm, ⟨26, _⟩ => ⟨S256x1024, .f32⟩
  | .hbm, ⟨27, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Contents.lean ====
/- What the kernel's buffers hold, and the names of its transfers and semaphores.

   Each device attends its own shard of the keys and values to all queries, one head at a time, and leaves
   for each head the normalised partial output and the logarithm of the sum of exponentials in slot 0 of two
   communication buffers. Twenty-one remote copies — seven pieces of slot 0, each sent to the three other
   devices — carry them to slot `d + 1` of the device `d + 1` further on. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

/-- The rounds of the kernel's cells; a duty is one of three payers. -/
abbrev UB : Type := URounds (GSem nD τ sig) (Fin 3)
/-- The pipeline's rounds, the kernel's rounds and the local transfers' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device `d + 1` further on: where transfer `d` of `c` goes. -/
def nx (c : Dev nD) (d : Fin 3) : Dev nD := ⟨(c.val + d.val + 1) % 4, Nat.mod_lt _ (by decide)⟩
set_option backward.proofsInPublic true in
/-- The device `s` back: whose contents slot `s` of `c` comes to hold. -/
def bk (c : Dev nD) (s : Fin 4) : Dev nD := ⟨(c.val + (4 - s.val)) % 4, Nat.mod_lt _ (by decide)⟩

/-- The payer opposite `d`: `c`'s signal to `nx c d` is that device's payer `op d`. -/
def op (d : Fin 3) : Fin 3 := ⟨2 - d.val, by omega⟩
theorem nx_op (c : Dev nD) (d : Fin 3) : nx (nx c d) (op d) = c := by revert c d; decide
theorem op_op (d : Fin 3) : op (op d) = d := by revert d; decide
theorem bk_nx (c : Dev nD) (d : Fin 3) : bk (nx c d) d.succ = c := by revert c d; decide
theorem bk_zero (c : Dev nD) : bk c 0 = c := by revert c; decide

/-! ## The transfers -/

/-- A transfer's piece and its direction, from its number in program order. -/
def pp (n : Fin 21) : Fin 7 := ⟨n.val / 3, by omega⟩
def dd (n : Fin 21) : Fin 3 := ⟨n.val % 3, by omega⟩
/-- The pieces: heads 0-1, heads 2-3, log-sums 0-3, heads 4-5, head 6, head 7, log-sums 4-7. -/
def isL (p : Fin 7) : Prop := p = 2 ∨ p = 6
instance (p : Fin 7) : Decidable (isL p) := by unfold isL; infer_instance
def lo : Fin 7 → ℕ := ![0, 2, 0, 4, 6, 7, 4]
def cnt : Fin 7 → ℕ := ![2, 2, 4, 2, 1, 1, 4]
/-- The phase of a piece among its buffer's semaphores. -/
def ph : Fin 7 → ℕ := ![0, 1, 0, 2, 3, 4, 1]
theorem ph_lt (p : Fin 7) : ph p < 5 := by revert p; decide

set_option backward.proofsInPublic true in
/-- The send and receive semaphores of a transfer. -/
def sS (n : Fin 21) : DmaSem sig :=
  if isL (pp n) then ⟨40 + 2 * (dd n).val + ph (pp n) % 2, by have := (dd n).isLt; show _ < 52; omega⟩
  else ⟨10 + 5 * (dd n).val + ph (pp n), by have := (dd n).isLt; have := ph_lt (pp n); show _ < 52; omega⟩
set_option backward.proofsInPublic true in
def rS (n : Fin 21) : DmaSem sig :=
  if isL (pp n) then ⟨46 + 2 * (dd n).val + ph (pp n) % 2, by have := (dd n).isLt; show _ < 52; omega⟩
  else ⟨25 + 5 * (dd n).val + ph (pp n), by have := (dd n).isLt; have := ph_lt (pp n); show _ < 52; omega⟩

set_option backward.proofsInPublic true in
/-- The semaphore of slot `j` of the key ring (`b = false`) or of the value ring. -/
def lS (b : Bool) (j : Fin 3) : DmaSem sig := ⟨(bif b then 7 else 4) + j.val, by have := j.isLt; show _ < 52; cases b <;> simp <;> omega⟩

/-- The transfer whose receive (send) semaphore this is. -/
def decR (q : DmaSem sig) : Option (Fin 21) := (List.finRange 21).find? fun n => rS n = q
def decS (q : DmaSem sig) : Option (Fin 21) := (List.finRange 21).find? fun n => sS n = q
theorem decR_rS (n : Fin 21) : decR (rS n) = some n := by revert n; decide
theorem decS_sS (n : Fin 21) : decS (sS n) = some n := by revert n; decide
theorem decR_sS (n : Fin 21) : decR (sS n) = none := by revert n; decide
theorem decS_rS (n : Fin 21) : decS (rS n) = none := by revert n; decide
theorem decR_lS (b : Bool) (j : Fin 3) : decR (lS b j) = none := by revert b j; decide

theorem rS_inj {a b : Fin 21} (h : rS a = rS b) : a = b := by
  have := congrArg decR h; rw [decR_rS, decR_rS] at this; exact Option.some.inj this
theorem sS_inj {a b : Fin 21} (h : sS a = sS b) : a = b := by
  have := congrArg decS h; rw [decS_sS, decS_sS] at this; exact Option.some.inj this
theorem sS_ne_rS (a b : Fin 21) : sS a ≠ rS b := fun h => by
  have := congrArg decS h; rw [decS_sS, decS_rS] at this; cases this

/-- A transfer's credit. -/
def Np (p : Fin 7) : ℕ :=
  if isL p then RefSig.tileCredit S4x256 .f32
  else if cnt p = 2 then RefSig.tileCredit S2x256x128 .bf16 else RefSig.tileCredit S1x256x128 .bf16
theorem Np_pos (p : Fin 7) : 0 < Np p := by revert p; decide

/-- The runtime's barrier semaphore. -/
abbrev barS : Sem sig := (SemArray.scalar (sig.barrier 0 rfl) : Sems sig S_).sem

abbrev barCell (c : Dev nD) : GSem nD τ sig := ((c : Thread nD τ), .reg barS)
abbrev sendCell (c : Dev nD) (n : Fin 21) : GSem nD τ sig := ((c : Thread nD τ), .dma (sS n))
abbrev recvCell (c : Dev nD) (n : Fin 21) : GSem nD τ sig := ((c : Thread nD τ), .dma (rS n))

/-! ## The memrefs -/

abbrev xM : Memref sig .tc .vmem S256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .hbm S4096x8x128 .f32 := Memref.whole main_arg2
abbrev vM : Memref sig .tc .hbm S4096x8x128 .f32 := Memref.whole main_arg3
abbrev outM : Memref sig .tc .vmem S256x1024 .f32 := Memref.whole cc0_stg3_0
abbrev ocM : Memref sig .tc .vmem S4x8x256x128 .bf16 := Memref.whole cc0_scratch0
abbrev lcM : Memref sig .tc .vmem S4x8x256 .f32 := Memref.whole cc0_scratch1
abbrev kbM : Memref sig .tc .vmem S3x4096x128 .f32 := Memref.whole cc0_scratch2
abbrev vbM : Memref sig .tc .vmem S3x4096x128 .f32 := Memref.whole cc0_scratch3

/-! ## Contents -/

/-- A head of the keys or values, as the kernel loads it: `[1, 4096, 128]`. -/
def headOf (A : Vec F S4096x8x128 .f32) (h : Fin 8) : Vec F S1x4096x128 .f32 :=
  fun i => A (fun a => match a with | ⟨0, _⟩ => i 1 | ⟨1, _⟩ => h | ⟨2, _⟩ => i 2)

/-- Each device's arguments as its kernel reads them. -/
def xv (c : Dev nD) : Vec F S256x1024 .f32 :=
  (win0_0.blk (0 : Fin 1)).view.read (Elt F) ((s₀ m ρ).mem ((c : Thread nD τ).loc main_arg0))
def wqv (c : Dev nD) : Vec F S1024x1024 .f32 :=
  (win0_1.blk (0 : Fin 1)).view.read (Elt F) ((s₀ m ρ).mem ((c : Thread nD τ).loc main_arg1))
def wov (c : Dev nD) : Vec F S1024x1024 .f32 :=
  (win0_2.blk (0 : Fin 1)).view.read (Elt F) ((s₀ m ρ).mem ((c : Thread nD τ).loc main_arg4))
def ka (c : Dev nD) : Vec F S4096x8x128 .f32 := (s₀ m ρ).mem ((c : Thread nD τ).loc main_arg2)
def va (c : Dev nD) : Vec F S4096x8x128 .f32 := (s₀ m ρ).mem ((c : Thread nD τ).loc main_arg3)
abbrev kh (c : Dev nD) (h : Fin 8) : Vec F S1x4096x128 .f32 := headOf (ka m ρ c) h
abbrev vh (c : Dev nD) (h : Fin 8) : Vec F S1x4096x128 .f32 := headOf (va m ρ c) h
/-- The projected and scaled queries. -/
def qb (c : Dev nD) : FVec F S256x1024 .bf16 := k0_pay2 (xv m ρ c) (wqv m ρ c)

/-- Device `c`'s partial output of head `h`, as stored. -/
def oh (c : Dev nD) (h : Fin 8) : FVec F S1x1x256x128 .bf16 :=
  match h with
  | 0 => k0_pay9 (qb m ρ c) (k0_pay3 (F := F)) (k0_pay4 (F := F)) (k0_pay6 (kh m ρ c 0)) (vh m ρ c 0)
  | 1 => k0_pay17 (k0_pay12 (F := F)) (k0_pay13 (vh m ρ c 1)) (k0_pay15 (qb m ρ c) (kh m ρ c 1))
      (k0_pay16 (qb m ρ c) (k0_pay11 (F := F)) (kh m ρ c 1)) (constant S256x128 .f32 0x00000000#32)
  | 2 => k0_pay25 (qb m ρ c) (k0_pay19 (F := F)) (k0_pay20 (F := F)) (k0_pay21 (kh m ρ c 2)) (k0_pay22 (vh m ρ c 2))
  | 3 => k0_pay32 (k0_pay31 (qb m ρ c) (k0_pay27 (F := F)) (k0_pay28 (F := F)) (kh m ρ c 3) (vh m ρ c 3))
  | 4 => k0_pay38 (qb m ρ c) (k0_pay34 (F := F)) (k0_pay35 (F := F)) (kh m ρ c 4) (vh m ρ c 4)
  | 5 => k0_pay46 (qb m ρ c) (k0_pay40 (F := F)) (k0_pay41 (F := F)) (k0_pay42 (kh m ρ c 5)) (k0_pay43 (vh m ρ c 5))
  | 6 => k0_pay86 (k0_pay48 (F := F)) (k0_pay49 (F := F)) (k0_pay83 (vh m ρ c 6)) (k0_pay84 (qb m ρ c) (kh m ρ c 6))
  | 7 => k0_pay93 (k0_pay92 (qb m ρ c) (k0_pay88 (F := F)) (k0_pay89 (F := F)) (kh m ρ c 7) (vh m ρ c 7))

/-- Device `c`'s logarithm of the sum of exponentials of head `h`, as stored. -/
def lh (c : Dev nD) (h : Fin 8) : FVec F S1x1x256 .f32 :=
  match h with
  | 0 => k0_pay10 (qb m ρ c) (k0_pay3 (F := F)) (k0_pay6 (kh m ρ c 0))
  | 1 => k0_pay18 (k0_pay16 (qb m ρ c) (k0_pay11 (F := F)) (kh m ρ c 1))
  | 2 => k0_pay26 (qb m ρ c) (k0_pay19 (F := F)) (k0_pay21 (kh m ρ c 2))
  | 3 => k0_pay33 (k0_pay30 (qb m ρ c) (k0_pay27 (F := F)) (kh m ρ c 3))
  | 4 => k0_pay39 (qb m ρ c) (k0_pay34 (F := F)) (kh m ρ c 4)
  | 5 => k0_pay47 (qb m ρ c) (k0_pay40 (F := F)) (k0_pay42 (kh m ρ c 5))
  | 6 => k0_pay87 (k0_pay48 (F := F)) (k0_pay84 (qb m ρ c) (kh m ρ c 6))
  | 7 => k0_pay94 (k0_pay91 (qb m ρ c) (k0_pay88 (F := F)) (kh m ρ c 7))

/-- What the two communication buffers of device `c` come to hold, slot by slot and head by head. -/
def OC (c : Dev nD) : Vec F S4x8x256x128 .bf16 :=
  fun i => oh m ρ (bk c (i 0)) (i 1) (fun a => match a with | ⟨0, _⟩ => (0 : Fin 1) | ⟨1, _⟩ => (0 : Fin 1) | ⟨2, _⟩ => i 2 | ⟨3, _⟩ => i 3)
def LC (c : Dev nD) : Vec F S4x8x256 .f32 :=
  fun i => lh m ρ (bk c (i 0)) (i 1) (fun a => match a with | ⟨0, _⟩ => (0 : Fin 1) | ⟨1, _⟩ => (0 : Fin 1) | ⟨2, _⟩ => i 2)

/-! ## The pieces -/

/-- The elements of slot `s`, heads `l` to `l + n`, of the output and of the log-sum buffer. -/
def oset (s l n : ℕ) : Finset S4x8x256x128.Idx :=
  Finset.univ.filter fun i => (i 0 : ℕ) = s ∧ l ≤ (i 1 : ℕ) ∧ (i 1 : ℕ) < l + n
def lset (s l n : ℕ) : Finset S4x8x256.Idx :=
  Finset.univ.filter fun i => (i 0 : ℕ) = s ∧ l ≤ (i 1 : ℕ) ∧ (i 1 : ℕ) < l + n

def ptO (c : Dev nD) (s l n : ℕ) (q : PosShare TreeShare) (f : Vec F S4x8x256x128 .bf16) : sProp 𝕄 :=
  ((c : Thread nD τ).loc cc0_scratch0) ↦[oset s l n]{q} f
def ptL (c : Dev nD) (s l n : ℕ) (q : PosShare TreeShare) (f : Vec F S4x8x256 .f32) : sProp 𝕄 :=
  ((c : Thread nD τ).loc cc0_scratch1) ↦[lset s l n]{q} f

omit [FloatOps F] [Named F] in
instance ptO_storable (c : Dev nD) (s l n q f) : BI.Storable (upEmb : UEmb _ 𝕄) (ptO (F := F) c s l n q f) := by unfold ptO; infer_instance
omit [FloatOps F] [Named F] in
instance ptL_storable (c : Dev nD) (s l n q f) : BI.Storable (upEmb : UEmb _ 𝕄) (ptL (F := F) c s l n q f) := by unfold ptL; infer_instance

/-- Piece `p` of slot `s` on device `c`, at given contents of the two buffers. -/
def piece (c : Dev nD) (p : Fin 7) (s : ℕ) (q : PosShare TreeShare) (fo : Vec F S4x8x256x128 .bf16) (fl : Vec F S4x8x256 .f32) : sProp 𝕄 :=
  if isL p then ptL c s (lo p) (cnt p) q fl else ptO c s (lo p) (cnt p) q fo

omit [FloatOps F] [Named F] in
instance piece_storable (c : Dev nD) (p s q fo fl) : BI.Storable (upEmb : UEmb _ 𝕄) (piece (F := F) c p s q fo fl) := by
  unfold piece; split <;> infer_instance

/-- The piece at its final contents; and at any. -/
def pieceC (c : Dev nD) (p : Fin 7) (s : ℕ) (q : PosShare TreeShare) : sProp 𝕄 := piece c p s q (OC m ρ c) (LC m ρ c)
def pieceAny (c : Dev nD) (p : Fin 7) (s : ℕ) : sProp 𝕄 := iprop(∃ fo fl, piece c p s fullShare fo fl)

instance pieceC_storable (c : Dev nD) (p s q) : BI.Storable (upEmb : UEmb _ 𝕄) (pieceC m ρ c p s q) := by unfold pieceC; infer_instance
omit [FloatOps F] [Named F] in
instance pieceAny_storable (c : Dev nD) (p s) : BI.Storable (upEmb : UEmb _ 𝕄) (pieceAny (F := F) c p s) := by unfold pieceAny; infer_instance

/-- The share of a slot-0 piece that direction `d`'s transfer holds. -/
def sh : Fin 3 → PosShare TreeShare := ![fullShare.left, fullShare.right.left, fullShare.right.right]

end Cert.KProof

end
-- ==== Proof.Sched.lean ====
/- The rounds schedule of the kernel's cells, what each device owes, and the levels of the waits. -/
module

public import proofs.«01_k».proof.Proof.Contents

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The payloads -/

/-- What payer `e` of `c`'s barrier cell — device `nx c e` — hands over: its slot `e + 1`, which `c` is to fill. -/
def barPay (c : Dev nD) (e : Fin 3) : sProp 𝕄 := bigSep Finset.univ fun p : Fin 7 => pieceAny (F := F) (nx c e) p (e.val + 1)
/-- What the arrival of transfer `n` at `c` hands over: the filled piece. -/
def recvPay (c : Dev nD) (n : Fin 21) : sProp 𝕄 := pieceC m ρ c (pp n) ((dd n).val + 1) fullShare
/-- What the departure of `c`'s transfer `n` gives back: its share of the source piece. -/
def sendPay (c : Dev nD) (n : Fin 21) : sProp 𝕄 := pieceC m ρ c (pp n) 0 (sh (dd n))

omit [FloatOps F] [Named F] in
instance barPay_storable (c : Dev nD) (e) : BI.Storable (upEmb : UEmb _ 𝕄) (barPay (F := F) c e) := by unfold barPay; infer_instance
instance recvPay_storable (c : Dev nD) (n) : BI.Storable (upEmb : UEmb _ 𝕄) (recvPay (F := F) m ρ c n) := by unfold recvPay; infer_instance
instance sendPay_storable (c : Dev nD) (n) : BI.Storable (upEmb : UEmb _ 𝕄) (sendPay (F := F) m ρ c n) := by unfold sendPay; infer_instance

/-! ## The schedule -/

def dutiesOf : SemLoc sig → Finset (Fin 3)
  | .reg _ => Finset.univ
  | .dma q => if (decR q).isSome ∨ (decS q).isSome then {0} else ∅

def amountOf : SemLoc sig → ℕ
  | .reg _ => 1
  | .dma q => match decR q with
    | some n => Np (pp n)
    | none => match decS q with
      | some n => Np (pp n)
      | none => 1

def payloadOf (c : Dev nD) (d : Fin 3) : SemLoc sig → sProp 𝕄
  | .reg _ => barPay c d
  | .dma q => match decR q with
    | some n => recvPay m ρ c n
    | none => match decS q with
      | some n => sendPay m ρ c n
      | none => iprop(emp)

theorem amountOf_pos (s : SemLoc sig) : 0 < amountOf s := by
  unfold amountOf
  split
  · exact Nat.one_pos
  · split
    · exact Np_pos _
    · split
      · exact Np_pos _
      · exact Nat.one_pos

/-- One round: a barrier cell has a duty of one unit for each of the three other devices, a transfer's send and receive
    cells one duty of the transfer's credit. -/
def rd : Rounds.Schedule (GSem nD τ sig) (Fin 3) 𝕄 where
  duties g r := if r = 0 ∧ g.1.2 = .tc then dutiesOf g.2 else ∅
  unitless _ := False
  amount g _ _ := amountOf g.2
  payload g _ d := payloadOf m ρ g.1.1 d g.2
  amount_pos g _ _ _ := amountOf_pos g.2

instance rd_payload_storable (g : GSem nD τ sig) (r : ℕ) (d : Fin 3) : BI.Storable (upEmb : UEmb _ 𝕄) ((rd (F := F) m ρ).payload g r d) := by
  show BI.Storable upEmb (payloadOf m ρ g.1.1 d g.2)
  unfold payloadOf
  (repeat' split) <;> infer_instance

section Tables
variable (c : Dev nD) (n : Fin 21)

theorem duties_bar : (rd (F := F) m ρ).duties (barCell c) 0 = Finset.univ := by dsimp only [rd]; exact if_pos ⟨rfl, rfl⟩
theorem duties_send : (rd (F := F) m ρ).duties (sendCell c n) 0 = {0} := by
  dsimp only [rd]; rw [if_pos ⟨rfl, rfl⟩]; dsimp only [dutiesOf]; rw [decS_sS]; exact if_pos (Or.inr rfl)
theorem duties_recv : (rd (F := F) m ρ).duties (recvCell c n) 0 = {0} := by
  dsimp only [rd]; rw [if_pos ⟨rfl, rfl⟩]; dsimp only [dutiesOf]; rw [decR_rS]; exact if_pos (Or.inl rfl)
theorem duties_later (g : GSem nD τ sig) : ∀ r, 1 ≤ r → (rd (F := F) m ρ).duties g r = ∅ :=
  fun r hr => by dsimp only [rd]; rw [if_neg fun h => by omega]

theorem amount_bar (d : Fin 3) : (rd (F := F) m ρ).amount (barCell c) 0 d = 1 := rfl
theorem amount_send (d : Fin 3) : (rd (F := F) m ρ).amount (sendCell c n) 0 d = Np (pp n) := by
  dsimp only [rd, amountOf]; rw [decR_sS, decS_sS]
theorem amount_recv (d : Fin 3) : (rd (F := F) m ρ).amount (recvCell c n) 0 d = Np (pp n) := by
  dsimp only [rd, amountOf]; rw [decR_rS]

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell c n) 0 = Np (pp n) := by
  unfold Schedule.expect Schedule.amountOf; rw [duties_send, Finset.sum_singleton, amount_send]
theorem expect_recv : (rd (F := F) m ρ).expect (recvCell c n) 0 = Np (pp n) := by
  unfold Schedule.expect Schedule.amountOf; rw [duties_recv, Finset.sum_singleton, amount_recv]

theorem payload_bar (d : Fin 3) : (rd (F := F) m ρ).payload (barCell c) 0 d = barPay c d := rfl
theorem payload_send (d : Fin 3) : (rd (F := F) m ρ).payload (sendCell c n) 0 d = sendPay m ρ c n := by
  dsimp only [rd, payloadOf]; rw [decR_sS, decS_sS]
theorem payload_recv (d : Fin 3) : (rd (F := F) m ρ).payload (recvCell c n) 0 d = recvPay m ρ c n := by
  dsimp only [rd, payloadOf]; rw [decR_rS]

theorem rest_bar : bigSep ((rd (F := F) m ρ).duties (barCell c) 0 \ ∅) (fun d => (rd (F := F) m ρ).payload (barCell c) 0 d)
    = bigSep Finset.univ fun d : Fin 3 => barPay c d := by
  rw [Finset.sdiff_empty, duties_bar]; rfl
theorem rest_send : bigSep ((rd (F := F) m ρ).duties (sendCell c n) 0 \ ∅) (fun d => (rd (F := F) m ρ).payload (sendCell c n) 0 d) = sendPay m ρ c n := by
  rw [Finset.sdiff_empty, duties_send, bigSep_singleton, payload_send]
theorem rest_recv : bigSep ((rd (F := F) m ρ).duties (recvCell c n) 0 \ ∅) (fun d => (rd (F := F) m ρ).payload (recvCell c n) 0 d) = recvPay m ρ c n := by
  rw [Finset.sdiff_empty, duties_recv, bigSep_singleton, payload_recv]

end Tables

/-! ## What a device owes -/

/-- The transfers not yet started, after the first `s`. -/
def rem (s : ℕ) : List (Fin 21) := (List.finRange 21).drop s
theorem rem_at (n : Fin 21) : rem n.val = n :: rem (n.val + 1) := by revert n; decide

/-- The arrivals a list of transfers owes. -/
def owL (c : Dev nD) : List (Fin 21) → CellTallies nD τ sig Unit
  | [] => 0
  | n :: l => owL c l + tallyAt (recvCell (nx c (dd n)) n) () (Np (pp n))
/-- What `c` owes after its first `s` transfers. -/
def owS (c : Dev nD) (s : ℕ) : CellTallies nD τ sig Unit := owL c (rem s)
theorem owS_at (c : Dev nD) (n : Fin 21) : owS c n.val = owS c (n.val + 1) + tallyAt (recvCell (nx c (dd n)) n) () (Np (pp n)) := by
  unfold owS; rw [rem_at]; rfl
theorem owS_end (c : Dev nD) : owS c 21 = 0 := rfl

/-- At launch a device owes every arrival and a unit of each other device's barrier cell, the first signal's last. -/
def O₀ (c : Dev nD) : CellTallies nD τ sig Unit :=
  owS c 0 + tallyAt (barCell (nx c 2)) () 1 + tallyAt (barCell (nx c 1)) () 1 + tallyAt (barCell (nx c 0)) () 1

theorem owL_pos {c : Dev nD} {l : List (Fin 21)} {g : GSem nD τ sig} {u : Unit} (h : 0 < owL c l g u) :
    ∃ n ∈ l, g = recvCell (nx c (dd n)) n := by
  induction l with
  | nil => exact absurd h (Nat.lt_irrefl 0)
  | cons n l ih =>
    rw [owL, Pi.add_apply, Finsupp.add_apply, tallyAt_apply] at h
    by_cases hg : g = recvCell (nx c (dd n)) n ∧ u = ()
    · exact ⟨n, List.mem_cons_self .., hg.1⟩
    · rw [if_neg hg, Nat.add_zero] at h
      obtain ⟨k, hk, e⟩ := ih h
      exact ⟨k, List.mem_cons_of_mem _ hk, e⟩

theorem O₀_pos {c : Dev nD} {g : GSem nD τ sig} {u : Unit} (h : 0 < O₀ c g u) :
    (∃ n : Fin 21, g = recvCell (nx c (dd n)) n) ∨ ∃ d, g = barCell (nx c d) := by
  unfold O₀ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨n, -, e⟩ := owL_pos (show 0 < owL c (rem 0) g u from h)
  exact hn.1 n e

/-! ## The levels -/

def L (g : GSem nD τ sig) : Finset Unit := if g.1.2 = .tc then {()} else ∅
/-- Barrier cells at 1, the arrivals waited for first at 2, those waited for last at 3, everything else at 0. -/
def lvOf : SemLoc sig → ℕ
  | .reg _ => 1
  | .dma q => match decR q with
    | some n => if n.val < 9 then 2 else 3
    | none => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (n : Fin 21) : lvOf (.dma (rS n)) = if n.val < 9 then 2 else 3 := by dsimp only [lvOf]; rw [decR_rS]
theorem lv_send (n : Fin 21) : lvOf (.dma (sS n)) = 0 := by dsimp only [lvOf]; rw [decR_sS]
theorem lv_load (b : Bool) (j : Fin 3) : lvOf (.dma (lS b j)) = 0 := by dsimp only [lvOf]; rw [decR_lS]

omit [FloatOps F] [Named F] in
/-- A device may wait on a cell below the arrivals it still owes. -/
theorem mayWait_owS (c : Dev nD) (sm : SemLoc sig) (s : ℕ) (h : ∀ n ∈ rem s, lvOf sm < if n.val < 9 then 2 else 3) :
    (levAts L lv : sProp 𝕄) ⊢ MayWait (c : Thread nD τ) sm () (owS c s) :=
  MayOwe.of_cut (L := L) (lev := lv) (lvOf sm) (fun p hp => by rw [Finset.mem_singleton.mp hp, L_tc]; exact Finset.mem_singleton_self _)
    (fun g u hg => by obtain ⟨n, -, rfl⟩ := owL_pos hg; exact Finset.mem_singleton_self _)
    (fun p hp => by rw [Finset.mem_singleton.mp hp]; exact le_refl _)
    (fun g u hg => by
      obtain ⟨n, hn, rfl⟩ := owL_pos hg
      show lvOf sm < lvOf (.dma (rS n))
      rw [lv_recv]; exact h n hn)

omit [FloatOps F] [Named F] in
/-- At a staging wait a device may owe everything, or nothing. -/
theorem mayWait_stage (c : Dev nD) (q : DmaSem sig) (hq : decR q = none) (O : CellTallies nD τ sig Unit) (hO : O = O₀ c ∨ O = 0) :
    (levAts L lv : sProp 𝕄) ⊢ MayWait (c : Thread nD τ) (.dma q) () O := by
  have hq0 : lvOf (.dma q) = 0 := by dsimp only [lvOf]; rw [hq]
  rcases hO with rfl | rfl
  · refine MayOwe.of_cut (L := L) (lev := lv) 0 (fun p hp => by rw [Finset.mem_singleton.mp hp, L_tc]; exact Finset.mem_singleton_self _)
      (fun g u hg => by rcases O₀_pos hg with ⟨n, rfl⟩ | ⟨d, rfl⟩ <;> exact Finset.mem_singleton_self _)
      (fun p hp => by rw [Finset.mem_singleton.mp hp]; exact le_of_eq hq0)
      (fun g u hg => by
        rcases O₀_pos hg with ⟨n, rfl⟩ | ⟨d, rfl⟩
        · show 0 < lvOf (.dma (rS n)); rw [lv_recv]; split <;> decide
        · show 0 < lvOf (.reg barS); decide)
  · rw [MayWait_zero]; iintro -; iempintro

end Cert.KProof

end
-- ==== Proof.State.lean ====
/- The state of a device's body between two operations: which transfers have been started and waited for, which heads
   have been loaded and stored. Every assertion is indexed by counters, as the kernel runs in program order. -/
module

public import proofs.«01_k».proof.Proof.Sched

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ) (ρ : Dev nD → PrngReg)

/-! ## Taking one conjunct of a big conjunction and putting another in its place -/

omit [FloatOps F] [Named F] in
theorem bigSep_upd {I : Type} [Fintype I] [DecidableEq I] (Φ Φ' : I → sProp 𝕄) (n : I) (h : ∀ k, k ≠ n → Φ k = Φ' k) :
    bigSep Finset.univ Φ ⊢ iprop(Φ n ∗ (Φ' n -∗ bigSep Finset.univ Φ')) := by
  rw [bigSep_univ_at Φ n, bigSep_univ_at Φ' n, bigSep_congr (fun k hk => h k (Finset.ne_of_mem_erase hk))]
  iintro ⟨H, Hr⟩
  isplitl [H]; · iexact H
  iintro H'
  isplitl [H'] <;> iassumption

omit [FloatOps F] [Named F] in
theorem bigSep_upd2 {I : Type} [Fintype I] [DecidableEq I] (Φ Φ' : I → sProp 𝕄) (a b : I) (hab : a ≠ b)
    (h : ∀ k, k ≠ a → k ≠ b → Φ k = Φ' k) :
    bigSep Finset.univ Φ ⊢ iprop(Φ a ∗ Φ b ∗ (Φ' a -∗ Φ' b -∗ bigSep Finset.univ Φ')) := by
  have hb : b ∈ Finset.univ.erase a := Finset.mem_erase.mpr ⟨hab.symm, Finset.mem_univ b⟩
  rw [bigSep_univ_at Φ a, bigSep_univ_at Φ' a, bigSep_erase (Φ := Φ) hb, bigSep_erase (Φ := Φ') hb,
    bigSep_congr (s := (Finset.univ.erase a).erase b) (Φ := Φ) (Ψ := Φ')
      (fun k hk => h k (Finset.ne_of_mem_erase (Finset.mem_of_mem_erase hk)) (Finset.ne_of_mem_erase hk))]
  show iprop(Φ a ∗ Φ b ∗ bigSep ((Finset.univ.erase a).erase b) Φ') ⊢ iprop(Φ a ∗ Φ b ∗ (Φ' a -∗ Φ' b -∗ (Φ' a ∗ Φ' b ∗ bigSep ((Finset.univ.erase a).erase b) Φ')))
  iintro ⟨Ha, Hb, Hr⟩
  isplitl [Ha]; · iexact Ha
  isplitl [Hb]; · iexact Hb
  iintro Ha Hb
  isplitl [Ha]; · iexact Ha
  isplitl [Hb] <;> iassumption

/-! ## The records: the cells' invariants, under the names the launch gave them -/

abbrev CI : Type := Option (Bool × Fin 21)
abbrev csem : CI → SemLoc sig
  | none => .reg barS
  | some (false, n) => .dma (sS n)
  | some (true, n) => .dma (rS n)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

/-- What every step may use again and again: the records and the levels. -/
def pers (K : Dev nD × CI → ℕ) : sProp 𝕄 := iprop(records m ρ K ∗ levAts L lv)
instance pers_persistent (K : Dev nD × CI → ℕ) : BI.Persistent (pers m ρ K) := by unfold pers; infer_instance

theorem pers_inv (K : Dev nD × CI → ℕ) (ck : Dev nD × CI) : pers m ρ K ⊢ cellInv ER (rd m ρ) (K ck) (kcell ck) := by
  unfold pers records
  have h : (bigSep Finset.univ fun ck : Dev nD × CI => (cellInv ER (rd m ρ) (K ck) (kcell ck) : sProp 𝕄)) ⊢ cellInv ER (rd m ρ) (K ck) (kcell ck) :=
    bigSep_elim (Finset.mem_univ ck)
  iintro ⟨⟨HI, -⟩, -⟩
  iapply h; iexact HI
theorem pers_reached (K : Dev nD × CI → ℕ) (ck : Dev nD × CI) : pers m ρ K ⊢ reached ER (kcell ck) 0 := by
  unfold pers records
  have h : (bigSep Finset.univ fun ck : Dev nD × CI => (reached ER (kcell ck) 0 : sProp 𝕄)) ⊢ reached ER (kcell ck) 0 :=
    bigSep_elim (Finset.mem_univ ck)
  iintro ⟨⟨-, HR⟩, -⟩
  iapply h; iexact HR
theorem pers_lev (K : Dev nD × CI → ℕ) : pers m ρ K ⊢ levAts L lv := by
  unfold pers
  iintro ⟨-, H⟩; iexact H

/-! ## The transfers' state -/

/-- What `c` owes after `s` transfers. -/
def owesE (c : Dev nD) (s : ℕ) : sProp 𝕄 := iprop(∃ W, owes (c : Thread nD τ) (owS c s) W)

/-- A transfer not yet started: its two duties, the piece it is to fill, its send cell unwaited. -/
def todoS (c : Dev nD) (n : Fin 21) : sProp 𝕄 :=
  iprop(dutyTok ER (sendCell c n) 0 (0 : Fin 3) ∗ dutyTok ER (recvCell (nx c (dd n)) n) 0 (0 : Fin 3)
    ∗ pieceAny (nx c (dd n)) (pp n) ((dd n).val + 1) ∗ atPos ER (sendCell c n) 0 ∅ 0)

/-- Transfer `n` after the pieces of the first `r` transfers are filled, `s` transfers started and `a` departures waited for. -/
def xs (c : Dev nD) (r s a : ℕ) (n : Fin 21) : sProp 𝕄 :=
  if n.val < a then iprop(sendPay m ρ c n ∗ semVal (sendCell c n) 0)
  else if n.val < s then iprop(atPos ER (sendCell c n) 0 ∅ 0 ∗ cred (tallyAt (sendCell c n) () (Np (pp n))))
  else iprop(todoS c n ∗ if n.val < r then sendPay m ρ c n else iprop(emp))
def XS (c : Dev nD) (r s a : ℕ) : sProp 𝕄 := bigSep Finset.univ (xs m ρ c r s a)

/-- Arrival `n` after the first `b` are waited for. -/
def xr (c : Dev nD) (b : ℕ) (n : Fin 21) : sProp 𝕄 :=
  if n.val < b then iprop(recvPay m ρ c n ∗ semVal (recvCell c n) 0)
  else iprop(atPos ER (recvCell c n) 0 ∅ 0 ∗ cred (tallyAt (recvCell c n) () (Np (pp n))))
def XR (c : Dev nD) (b : ℕ) : sProp 𝕄 := bigSep Finset.univ (xr m ρ c b)

/-! ## The device's own slot -/

/-- Piece `p` of slot 0 while it is being filled: the heads below `so` (log-sums below `sl`) are in place. -/
def ownP (c : Dev nD) (so sl : ℕ) (p : Fin 7) : sProp 𝕄 :=
  if isL p then iprop(∃ f : Vec F S4x8x256 .f32, ⌜∀ i ∈ lset 0 (lo p) (cnt p), (i 1 : ℕ) < sl → f i = LC m ρ c i⌝ ∗ ptL c 0 (lo p) (cnt p) fullShare f)
  else iprop(∃ f : Vec F S4x8x256x128 .bf16, ⌜∀ i ∈ oset 0 (lo p) (cnt p), (i 1 : ℕ) < so → f i = OC m ρ c i⌝ ∗ ptO c 0 (lo p) (cnt p) fullShare f)
/-- The pieces from `r` on. -/
def OWN (c : Dev nD) (so sl r : ℕ) : sProp 𝕄 :=
  bigSep Finset.univ fun p : Fin 7 => if p.val < r then iprop(emp) else ownP m ρ c so sl p

end Cert.KProof

end
-- ==== Proof.OpsSend.lean ====
/- The remote copies: starting one, waiting for its departure, waiting for an arrival. -/
module

public import proofs.«01_k».proof.Proof.State

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-- Starting transfer `n`, for any source and destination memrefs whose elements are the piece's. -/
theorem wp_send_core (c : Dev nD) (n : Fin 21) (r a s' : ℕ) (hs' : s' = n.val + 1) (ha : a ≤ n.val) (hr : n.val < r)
    (n' : Dev nD) (hn' : n' = nx c (dd n)) {s : Shape} {e : EltTy}
    (src : Memref sig .tc .vmem s e) (dst : Memref sig .tc .vmem s e) (qS qR : DmaSem sig) (hqS : qS = sS n) (hqR : qR = rS n)
    (hN : dst.view.amount (.dma qR) = Np (pp n)) (fs : Buf (Elt F) (src.view.loc (c : Thread nD τ)))
    (hsrcP : sendPay m ρ c n = (src.view.loc (c : Thread nD τ) ↦[src.view.set]{sh (dd n)} fs : sProp 𝕄))
    (hdstP : pieceAny (F := F) (nx c (dd n)) (pp n) ((dd n).val + 1)
      ⊢ iprop(∃ fd, dst.view.loc ((nx c (dd n) : Dev nD) : Thread nD τ) ↦[dst.view.set]{fullShare} fd))
    (hland : ∀ fd, (dst.view.loc ((nx c (dd n) : Dev nD) : Thread nD τ) ↦[dst.view.set]{fullShare}
        (dst.view.write (Elt F) fd (src.view.read (Elt F) fs) Finset.univ)) ⊢ recvPay m ρ (nx c (dd n)) n)
    {hsc : (dst : Memref sig (Dev.tc n' : Thread nD τ).2.kind .vmem s e).view.ref.isScScratch = false}
    {hsrc : src.view.WordExact} {hdst : dst.view.WordExact}
    {hsem : DmaTarget.Typed .vmem (.dma qR) (.remote (Dev.tc n' : Thread nD τ) dst (.dma qS) hsc)}
    {α : Type} {Q : α → sProp 𝕄} {k : PUnit → Prog (TpuEff nD τ sig (Elt F) Λ₀ .tc) α} :
    iprop(pers m ρ K ∗ XS m ρ c r n.val a ∗ owesE c n.val)
      ⊢ iprop(((XS m ρ c r s' a ∗ owesE c s') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma qS) hsc) (.dma qR) hsrc hdst hsem) k) Q) := by
  subst hn' hqS hqR hs'
  have hx : XS m ρ c r n.val a ⊢ iprop(xs m ρ c r n.val a n ∗ (xs m ρ c r (n.val + 1) a n -∗ XS m ρ c r (n.val + 1) a)) :=
    bigSep_upd _ _ n fun k hk => by
      have : k.val ≠ n.val := fun h => hk (Fin.ext h)
      unfold xs
      by_cases h1 : k.val < n.val
      · rw [if_pos h1, if_pos (show k.val < n.val + 1 by omega)]
      · rw [if_neg h1, if_neg (show ¬ k.val < n.val + 1 by omega)]
  have h0 : xs m ρ c r n.val a n = iprop(todoS c n ∗ sendPay m ρ c n) := by
    unfold xs; rw [if_neg (by omega), if_neg (lt_irrefl _), if_pos hr]
  have h1 : xs m ρ c r (n.val + 1) a n = iprop(atPos ER (sendCell c n) 0 ∅ 0 ∗ cred (tallyAt (sendCell c n) () (Np (pp n)))) := by
    unfold xs; rw [if_neg (by omega), if_pos (by omega)]
  rw [h0, h1] at hx
  iintro ⟨#HP, HX, HO⟩ Hk
  ihave HX := hx $$ HX
  icases HX with ⟨⟨Ht, Hs⟩, Hback⟩
  unfold todoS
  icases Ht with ⟨Hts, Htr, Hp, Hat⟩
  ihave Hd := hdstP $$ Hp
  icases Hd with ⟨%fd, Hd⟩
  unfold owesE
  icases HO with ⟨%W, HO⟩
  ihave Hs := (Entails.of_eq hsrcP) $$ Hs
  iapply (Rounds.wp_send_pointsTo 𝒱₀ ER (rd m ρ) (c : Thread nD τ) none (κ₁ := K (c, some (false, n))) (κ₂ := K (nx c (dd n), some (true, n)))
    (r₁ := 0) (r₂ := 0) (d₁ := 0) (d₂ := 0) (fs := fs) (fd := fd)
    (by rw [duties_send]; exact Finset.mem_singleton_self _) (by rw [duties_recv]; exact Finset.mem_singleton_self _)
    () () (Np (pp n)) hN (amount_send m ρ c n 0) (amount_recv m ρ (nx c (dd n)) n 0) (owS c (n.val + 1)) (owS_at c n) (W := W)
    (by rw [payload_send, hsrcP])
    (by rw [payload_recv]; exact hland fd)) $$ [Hs Hd HO Hts Htr]
  · isplitr; · iapply (pers_inv m ρ K (c, some (false, n))); iexact HP
    isplitr; · iapply (pers_inv m ρ K (nx c (dd n), some (true, n))); iexact HP
    isplitl [Hs]; · iexact Hs
    isplitl [Hd]; · iexact Hd
    isplitl [HO]; · iexact HO
    isplitl [Hts]; · iexact Hts
    isplitr; · iapply (pers_reached m ρ K (c, some (false, n))); iexact HP
    isplitl [Htr]; · iexact Htr
    iapply (pers_reached m ρ K (nx c (dd n), some (true, n))); iexact HP
  iintro ⟨Hc, HO⟩
  iapply Hk
  isplitl [Hback Hat Hc]
  · iapply Hback
    isplitl [Hat] <;> iassumption
  · iexists W; iexact HO

/-- Waiting for the departure of transfer `n`: the share of the source piece is back, the semaphore at zero. -/
theorem wp_waitS (c : Dev nD) (n : Fin 21) (r s a' : ℕ) (ha' : a' = n.val + 1) (hs : n.val < s)
    (hl : ∀ k ∈ rem s, 0 < if k.val < 9 then 2 else 3)
    (q : DmaSem sig) (hq : q = sS n) {sp : Space} {s' s'' : Shape} {e e' : EltTy} {κ : Kind}
    {srcw : Memref sig .tc sp s'' e'} {dstw : Memref sig κ .vmem s' e} (hN : dstw.view.dmaCredit = Np (pp n))
    {hsrc : srcw.view.WordExact} {hdst : dstw.view.WordExact}
    {α : Type} {Q : α → sProp 𝕄} {k : PUnit → Prog (TpuEff nD τ sig (Elt F) Λ₀ .tc) α} :
    iprop(pers m ρ K ∗ XS m ρ c r s n.val ∗ owesE c s)
      ⊢ iprop(((XS m ρ c r s a' ∗ owesE c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hq ha'
  have hx : XS m ρ c r s n.val ⊢ iprop(xs m ρ c r s n.val n ∗ (xs m ρ c r s (n.val + 1) n -∗ XS m ρ c r s (n.val + 1))) :=
    bigSep_upd _ _ n fun k hk => by
      have : k.val ≠ n.val := fun h => hk (Fin.ext h)
      unfold xs
      by_cases h1 : k.val < n.val
      · rw [if_pos h1, if_pos (show k.val < n.val + 1 by omega)]
      · rw [if_neg h1, if_neg (show ¬ k.val < n.val + 1 by omega)]
  have h0 : xs m ρ c r s n.val n = iprop(atPos ER (sendCell c n) 0 ∅ 0 ∗ cred (tallyAt (sendCell c n) () (Np (pp n)))) := by
    unfold xs; rw [if_neg (lt_irrefl _), if_pos hs]
  have h1 : xs m ρ c r s (n.val + 1) n = iprop(sendPay m ρ c n ∗ semVal (sendCell c n) 0) := by
    unfold xs; rw [if_pos (by omega)]
  rw [h0, h1] at hx
  iintro ⟨#HP, HX, HO⟩ Hk
  ihave HX := hx $$ HX
  icases HX with ⟨⟨Hat, Hc⟩, Hback⟩
  unfold owesE
  icases HO with ⟨%W, HO⟩
  iapply (Rounds.wp_wait_rest_token 𝒱₀ ER (rd m ρ) (c : Thread nD τ) none (κ := K (c, some (false, n)))
      (wpE_waitDma2_eq 𝒱₀ (c : Thread nD τ) none Set.univ) (Set.mem_univ _) () (O := owS c s) (W := W) (R := 0) (m := 0) (T := ∅)
      (by rw [Nat.zero_add, expect_send]; exact hN)) $$ [Hc HO Hat]
  · isplitr; · iapply (pers_inv m ρ K (c, some (false, n))); iexact HP
    isplitl [Hc]; · rw [hN]; iexact Hc
    isplitl [HO]; · iexact HO
    isplitr
    · iapply (mayWait_owS (F := F) c (.dma (sS n)) s (by rw [lv_send]; exact hl))
      iapply (pers_lev m ρ K); iexact HP
    iexact Hat
  iintro ⟨HO, Hat, -, Hpay⟩
  ihave Hs := (Entails.of_eq (rest_send m ρ c n)) $$ Hpay
  imod (Rounds.cell_close ER (rd m ρ) (Set.mem_univ (K (c, some (false, n)))) (fun h => h) (R := 0 + 1) (duties_later m ρ (sendCell c n))) $$ [Hat] with Hz
  · isplitr; · iapply (pers_inv m ρ K (c, some (false, n))); iexact HP
    iexact Hat
  iapply Hk
  isplitl [Hback Hs Hz]
  · iapply Hback
    isplitl [Hs] <;> iassumption
  · iexists _; iexact HO

/-- Waiting for arrival `n`: the filled piece, the semaphore at zero. -/
theorem wp_waitR (c : Dev nD) (n : Fin 21) (s b' : ℕ) (hb' : b' = n.val + 1)
    (hl : ∀ k ∈ rem s, (if n.val < 9 then 2 else 3) < if k.val < 9 then 2 else 3)
    (q : DmaSem sig) (hq : q = rS n) {sp : Space} {s' s'' : Shape} {e e' : EltTy} {κ : Kind}
    {srcw : Memref sig .tc sp s'' e'} {dstw : Memref sig κ .vmem s' e} (hN : dstw.view.dmaCredit = Np (pp n))
    {hsrc : srcw.view.WordExact} {hdst : dstw.view.WordExact}
    {α : Type} {Q : α → sProp 𝕄} {k : PUnit → Prog (TpuEff nD τ sig (Elt F) Λ₀ .tc) α} :
    iprop(pers m ρ K ∗ XR m ρ c n.val ∗ owesE c s)
      ⊢ iprop(((XR m ρ c b' ∗ owesE c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hq hb'
  have hx : XR m ρ c n.val ⊢ iprop(xr m ρ c n.val n ∗ (xr m ρ c (n.val + 1) n -∗ XR m ρ c (n.val + 1))) :=
    bigSep_upd _ _ n fun k hk => by
      have : k.val ≠ n.val := fun h => hk (Fin.ext h)
      unfold xr
      by_cases h1 : k.val < n.val
      · rw [if_pos h1, if_pos (show k.val < n.val + 1 by omega)]
      · rw [if_neg h1, if_neg (show ¬ k.val < n.val + 1 by omega)]
  have h0 : xr m ρ c n.val n = iprop(atPos ER (recvCell c n) 0 ∅ 0 ∗ cred (tallyAt (recvCell c n) () (Np (pp n)))) := by
    unfold xr; rw [if_neg (lt_irrefl _)]
  have h1 : xr m ρ c (n.val + 1) n = iprop(recvPay m ρ c n ∗ semVal (recvCell c n) 0) := by
    unfold xr; rw [if_pos (by omega)]
  rw [h0, h1] at hx
  iintro ⟨#HP, HX, HO⟩ Hk
  ihave HX := hx $$ HX
  icases HX with ⟨⟨Hat, Hc⟩, Hback⟩
  unfold owesE
  icases HO with ⟨%W, HO⟩
  iapply (Rounds.wp_wait_rest_token 𝒱₀ ER (rd m ρ) (c : Thread nD τ) none (κ := K (c, some (true, n)))
      (wpE_waitDma2_eq 𝒱₀ (c : Thread nD τ) none Set.univ) (Set.mem_univ _) () (O := owS c s) (W := W) (R := 0) (m := 0) (T := ∅)
      (by rw [Nat.zero_add, expect_recv]; exact hN)) $$ [Hc HO Hat]
  · isplitr; · iapply (pers_inv m ρ K (c, some (true, n))); iexact HP
    isplitl [Hc]; · rw [hN]; iexact Hc
    isplitl [HO]; · iexact HO
    isplitr
    · iapply (mayWait_owS (F := F) c (.dma (rS n)) s (by rw [lv_recv]; exact hl))
      iapply (pers_lev m ρ K); iexact HP
    iexact Hat
  iintro ⟨HO, Hat, -, Hpay⟩
  ihave Hs := (Entails.of_eq (rest_recv m ρ c n)) $$ Hpay
  imod (Rounds.cell_close ER (rd m ρ) (Set.mem_univ (K (c, some (true, n)))) (fun h => h) (R := 0 + 1) (duties_later m ρ (recvCell c n))) $$ [Hat] with Hz
  · isplitr; · iapply (pers_inv m ρ K (c, some (true, n))); iexact HP
    iexact Hat
  iapply Hk
  isplitl [Hback Hs Hz]
  · iapply Hback
    isplitl [Hs] <;> iassumption
  · iexists _; iexact HO

end Cert.KProof

end
-- ==== Proof.Geom.lean ====
/- Which elements the kernel's memrefs cover, and what they read. -/
module

public import proofs.«01_k».proof.Proof.OpsSend

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## Rectangles of the communication buffers -/

theorem oset_rect {s l n : ℕ} {off sz : Fin 4 → ℕ} {inb} (hoff : off = ![s, l, 0, 0]) (hsz : sz = ![1, n, 256, 128]) :
    (Rect.unit (s := S4x8x256x128) off sz inb).set = oset s l n := by
  subst hoff hsz
  ext i
  rw [Rect.mem_set_unit]
  have h2 : (i 2 : ℕ) < 256 := (i 2).isLt
  have h3 : (i 3 : ℕ) < 128 := (i 3).isLt
  simp only [oset, Finset.mem_filter, Finset.mem_univ, true_and]
  constructor
  · intro h
    have a0 := h 0; have a1 := h 1
    simp at a0 a1
    omega
  · rintro ⟨h0, h1, h1'⟩ a
    match a with
    | 0 => simp; omega
    | 1 => simp; omega
    | 2 => simp; omega
    | 3 => simp; omega

theorem lset_rect {s l n : ℕ} {off sz : Fin 3 → ℕ} {inb} (hoff : off = ![s, l, 0]) (hsz : sz = ![1, n, 256]) :
    (Rect.unit (s := S4x8x256) off sz inb).set = lset s l n := by
  subst hoff hsz
  ext i
  rw [Rect.mem_set_unit]
  have h2 : (i 2 : ℕ) < 256 := (i 2).isLt
  simp only [lset, Finset.mem_filter, Finset.mem_univ, true_and]
  constructor
  · intro h
    have a0 := h 0; have a1 := h 1
    simp at a0 a1
    omega
  · rintro ⟨h0, h1, h1'⟩ a
    match a with
    | 0 => simp; omega
    | 1 => simp; omega
    | 2 => simp; omega

/-- The final contents of slot `d + 1` on the device a transfer goes to are those of slot 0 where it comes from. -/
theorem OC_shift (c : Dev nD) (d : Fin 3) (i j : S4x8x256x128.Idx) (hi : (i 0 : ℕ) = 0) (hj : (j 0 : ℕ) = d.val + 1)
    (h1 : (i 1 : ℕ) = j 1) (h2 : (i 2 : ℕ) = j 2) (h3 : (i 3 : ℕ) = j 3) : OC m ρ c i = OC m ρ (nx c d) j := by
  have e0 : i 0 = (0 : Fin 4) := Fin.ext hi
  have f0 : j 0 = d.succ := Fin.ext hj
  unfold OC
  rw [e0, f0, bk_nx, bk_zero, show i 1 = j 1 from Fin.ext h1, show i 2 = j 2 from Fin.ext h2, show i 3 = j 3 from Fin.ext h3]

theorem LC_shift (c : Dev nD) (d : Fin 3) (i j : S4x8x256.Idx) (hi : (i 0 : ℕ) = 0) (hj : (j 0 : ℕ) = d.val + 1)
    (h1 : (i 1 : ℕ) = j 1) (h2 : (i 2 : ℕ) = j 2) : LC m ρ c i = LC m ρ (nx c d) j := by
  have e0 : i 0 = (0 : Fin 4) := Fin.ext hi
  have f0 : j 0 = d.succ := Fin.ext hj
  unfold LC
  rw [e0, f0, bk_nx, bk_zero, show i 1 = j 1 from Fin.ext h1, show i 2 = j 2 from Fin.ext h2]

/-- A rectangle of a communication buffer, its unit axis dropped: a transfer's end. -/
abbrev oSub {s' : Shape} (off sz : Fin 4 → ℕ) (inb) (hs : ∀ a, (Rect.unit (s := S4x8x256x128) off sz inb).stride a = 1)
    (hq : (Rect.unit (s := S4x8x256x128) off sz inb).shape.Squeezes s') : Memref sig .tc .vmem s' .bf16 :=
  (ocM.slice (Rect.unit (s := S4x8x256x128) off sz inb) hs).squeeze s' hq
abbrev lSub {s' : Shape} (off sz : Fin 3 → ℕ) (inb) (hs : ∀ a, (Rect.unit (s := S4x8x256) off sz inb).stride a = 1)
    (hq : (Rect.unit (s := S4x8x256) off sz inb).shape.Squeezes s') : Memref sig .tc .vmem s' .f32 :=
  (lcM.slice (Rect.unit (s := S4x8x256) off sz inb) hs).squeeze s' hq

theorem oSub_set {s' : Shape} {off sz : Fin 4 → ℕ} {inb hs hq} : (oSub (s' := s') off sz inb hs hq).view.set = (Rect.unit (s := S4x8x256x128) off sz inb).set := by
  show (((View.whole cc0_scratch0).slice _).reshape _ _).set = _
  rw [View.set_reshape, View.set_slice_whole]
theorem lSub_set {s' : Shape} {off sz : Fin 3 → ℕ} {inb hs hq} : (lSub (s' := s') off sz inb hs hq).view.set = (Rect.unit (s := S4x8x256) off sz inb).set := by
  show (((View.whole cc0_scratch1).slice _).reshape _ _).set = _
  rw [View.set_reshape, View.set_slice_whole]

/-- What arrives: slot 0's piece, in its place of the slot it goes to. -/
theorem oSub_land (c : Dev nD) (d : Fin 3) (l : ℕ) {s' : Shape} {offs offd sz : Fin 4 → ℕ} {inbs inbd hss hsd hqs hqd}
    (hos : offs = ![0, l, 0, 0]) (hod : offd = ![d.val + 1, l, 0, 0]) (n : ℕ) (hsz : sz = ![1, n, 256, 128])
    (fd : Vec F S4x8x256x128 .bf16) :
    ∀ i ∈ (oSub (s' := s') offd sz inbd hsd hqd).view.set,
      (oSub (s' := s') offd sz inbd hsd hqd).view.write (Elt F) fd
        ((oSub (s' := s') offs sz inbs hss hqs).view.read (Elt F) (OC m ρ c)) Finset.univ i = OC m ρ (nx c d) i := by
  intro i hi
  obtain ⟨x, -, rfl⟩ := Finset.mem_map.mp hi
  rw [View.write_emb_of_mem _ _ (Finset.mem_univ x)]
  show OC m ρ c ((Rect.unit (s := S4x8x256x128) offs sz inbs).emb (Shape.reshapeEquiv _ x))
    = OC m ρ (nx c d) ((Rect.unit (s := S4x8x256x128) offd sz inbd).emb (Shape.reshapeEquiv _ x))
  subst hos hod
  generalize hy : Shape.reshapeEquiv _ x = y
  have y0 : (y 0 : ℕ) < 1 := lt_of_lt_of_eq (y 0).isLt (congrFun hsz 0)
  refine OC_shift m ρ c d _ _ ?_ ?_ ?_ ?_ ?_
  · show 0 + 1 * (y 0 : ℕ) = 0; omega
  · show (d.val + 1) + 1 * (y 0 : ℕ) = d.val + 1; omega
  · rfl
  · rfl
  · rfl

theorem lSub_land (c : Dev nD) (d : Fin 3) (l : ℕ) {s' : Shape} {offs offd sz : Fin 3 → ℕ} {inbs inbd hss hsd hqs hqd}
    (hos : offs = ![0, l, 0]) (hod : offd = ![d.val + 1, l, 0]) (n : ℕ) (hsz : sz = ![1, n, 256])
    (fd : Vec F S4x8x256 .f32) :
    ∀ i ∈ (lSub (s' := s') offd sz inbd hsd hqd).view.set,
      (lSub (s' := s') offd sz inbd hsd hqd).view.write (Elt F) fd
        ((lSub (s' := s') offs sz inbs hss hqs).view.read (Elt F) (LC m ρ c)) Finset.univ i = LC m ρ (nx c d) i := by
  intro i hi
  obtain ⟨x, -, rfl⟩ := Finset.mem_map.mp hi
  rw [View.write_emb_of_mem _ _ (Finset.mem_univ x)]
  show LC m ρ c ((Rect.unit (s := S4x8x256) offs sz inbs).emb (Shape.reshapeEquiv _ x))
    = LC m ρ (nx c d) ((Rect.unit (s := S4x8x256) offd sz inbd).emb (Shape.reshapeEquiv _ x))
  subst hos hod
  generalize hy : Shape.reshapeEquiv _ x = y
  have y0 : (y 0 : ℕ) < 1 := lt_of_lt_of_eq (y 0).isLt (congrFun hsz 0)
  refine LC_shift m ρ c d _ _ ?_ ?_ ?_ ?_
  · show 0 + 1 * (y 0 : ℕ) = 0; omega
  · show (d.val + 1) + 1 * (y 0 : ℕ) = d.val + 1; omega
  · rfl
  · rfl

/-- Starting transfer `n` of a piece of the outputs. -/
theorem wp_sendO (c : Dev nD) (n : Fin 21) (r a t' : ℕ) (ht' : t' = n.val + 1) (ha : a ≤ n.val) (hr : n.val < r)
    (n' : Dev nD) (hn' : n' = nx c (dd n)) (hL : ¬ isL (pp n)) {s' : Shape} (offs offd sz : Fin 4 → ℕ) {inbs inbd hss hsd hqs hqd}
    (hos : offs = ![0, lo (pp n), 0, 0]) (hod : offd = ![(dd n).val + 1, lo (pp n), 0, 0]) (hsz : sz = ![1, cnt (pp n), 256, 128])
    (qS qR : DmaSem sig) (hqS : qS = sS n) (hqR : qR = rS n) (hN : RefSig.tileCredit s' .bf16 = Np (pp n))
    {hsc : ((oSub (s' := s') offd sz inbd hsd hqd) : Memref sig (Dev.tc n' : Thread nD τ).2.kind .vmem s' .bf16).view.ref.isScScratch = false}
    {hsrc : (oSub (s' := s') offs sz inbs hss hqs).view.WordExact} {hdst : (oSub (s' := s') offd sz inbd hsd hqd).view.WordExact}
    {hsem : DmaTarget.Typed .vmem (.dma qR) (.remote (Dev.tc n' : Thread nD τ) (oSub (s' := s') offd sz inbd hsd hqd) (.dma qS) hsc)}
    {α : Type} {Q : α → sProp 𝕄} {k : PUnit → Prog (TpuEff nD τ sig (Elt F) Λ₀ .tc) α} :
    iprop(pers m ρ K ∗ XS m ρ c r n.val a ∗ owesE c n.val)
      ⊢ iprop(((XS m ρ c r t' a ∗ owesE c t') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSub (s' := s') offs sz inbs hss hqs) (.remote (Dev.tc n' : Thread nD τ) (oSub (s' := s') offd sz inbd hsd hqd) (.dma qS) hsc)
                (.dma qR) hsrc hdst hsem) k) Q) :=
  wp_send_core m ρ K c n r a t' ht' ha hr n' hn' _ _ qS qR hqS hqR hN (OC m ρ c)
    (by unfold sendPay pieceC piece; rw [if_neg hL]; unfold ptO; rw [oSub_set (hs := hss) (hq := hqs), oset_rect hos hsz])
    (by
      unfold pieceAny piece; simp only [if_neg hL]; unfold ptO; rw [oSub_set (hs := hsd) (hq := hqd), oset_rect hod hsz]
      iintro ⟨%fo, %fl, H⟩
      iexists fo; iexact H)
    (fun fd => by
      rw [pointsTo_congr (oSub_land m ρ c (dd n) (lo (pp n)) (hss := hss) (hsd := hsd) (hqs := hqs) (hqd := hqd) hos hod (cnt (pp n)) hsz fd)]
      unfold recvPay pieceC piece; rw [if_neg hL]; unfold ptO; rw [oSub_set (hs := hsd) (hq := hqd), oset_rect hod hsz])

/-- Starting transfer `n` of a piece of the log-sums. -/
theorem wp_sendL (c : Dev nD) (n : Fin 21) (r a t' : ℕ) (ht' : t' = n.val + 1) (ha : a ≤ n.val) (hr : n.val < r)
    (n' : Dev nD) (hn' : n' = nx c (dd n)) (hL : isL (pp n)) {s' : Shape} (offs offd sz : Fin 3 → ℕ) {inbs inbd hss hsd hqs hqd}
    (hos : offs = ![0, lo (pp n), 0]) (hod : offd = ![(dd n).val + 1, lo (pp n), 0]) (hsz : sz = ![1, cnt (pp n), 256])
    (qS qR : DmaSem sig) (hqS : qS = sS n) (hqR : qR = rS n) (hN : RefSig.tileCredit s' .f32 = Np (pp n))
    {hsc : ((lSub (s' := s') offd sz inbd hsd hqd) : Memref sig (Dev.tc n' : Thread nD τ).2.kind .vmem s' .f32).view.ref.isScScratch = false}
    {hsrc : (lSub (s' := s') offs sz inbs hss hqs).view.WordExact} {hdst : (lSub (s' := s') offd sz inbd hsd hqd).view.WordExact}
    {hsem : DmaTarget.Typed .vmem (.dma qR) (.remote (Dev.tc n' : Thread nD τ) (lSub (s' := s') offd sz inbd hsd hqd) (.dma qS) hsc)}
    {α : Type} {Q : α → sProp 𝕄} {k : PUnit → Prog (TpuEff nD τ sig (Elt F) Λ₀ .tc) α} :
    iprop(pers m ρ K ∗ XS m ρ c r n.val a ∗ owesE c n.val)
      ⊢ iprop(((XS m ρ c r t' a ∗ owesE c t') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (lSub (s' := s') offs sz inbs hss hqs) (.remote (Dev.tc n' : Thread nD τ) (lSub (s' := s') offd sz inbd hsd hqd) (.dma qS) hsc)
                (.dma qR) hsrc hdst hsem) k) Q) :=
  wp_send_core m ρ K c n r a t' ht' ha hr n' hn' _ _ qS qR hqS hqR hN (LC m ρ c)
    (by unfold sendPay pieceC piece; rw [if_pos hL]; unfold ptL; rw [lSub_set (hs := hss) (hq := hqs), lset_rect hos hsz])
    (by
      unfold pieceAny piece; simp only [if_pos hL]; unfold ptL; rw [lSub_set (hs := hsd) (hq := hqd), lset_rect hod hsz]
      iintro ⟨%fo, %fl, H⟩
      iexists fl; iexact H)
    (fun fd => by
      rw [pointsTo_congr (lSub_land m ρ c (dd n) (lo (pp n)) (hss := hss) (hsd := hsd) (hqs := hqs) (hqd := hqd) hos hod (cnt (pp n)) hsz fd)]
      unfold recvPay pieceC piece; rw [if_pos hL]; unfold ptL; rw [lSub_set (hs := hsd) (hq := hqd), lset_rect hod hsz])

end Cert.KProof

end
-- ==== Proof.Own.lean ====
/- The device's own slot: storing a head, handing a full piece to its three transfers; and the loads of the merge. -/
module

public import proofs.«01_k».proof.Proof.Geom

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## Rectangles of the communication buffers -/

/-! ## Storing -/

/-- A head of a slot of the output buffer; a row, and half a slot, of the log-sum buffer. -/
abbrev oR (s : Fin 4) (h : Fin 8) : Rect S4x8x256x128 := Rect.unit (s := S4x8x256x128) ![s.val, h.val, 0, 0] S1x1x256x128.size (by revert s h; decide)
abbrev lR (h : Fin 8) : Rect S4x8x256 := Rect.unit (s := S4x8x256) ![0, h.val, 0] S1x1x256.size (by revert h; decide)
abbrev lQ (s : Fin 4) (b : Fin 2) : Rect S4x8x256 := Rect.unit (s := S4x8x256) ![s.val, 4 * b.val, 0] S1x4x256.size (by revert s b; decide)

/-- The pieces that contain head `h`. -/
def pO : Fin 8 → Fin 7 := ![0, 0, 1, 1, 3, 3, 4, 5]
def pL : Fin 8 → Fin 7 := ![2, 2, 2, 2, 6, 6, 6, 6]
theorem pO_not (h : Fin 8) : ¬ isL (pO h) := by revert h; decide
theorem pL_is (h : Fin 8) : isL (pL h) := by revert h; decide
theorem pO_mem (h : Fin 8) : lo (pO h) ≤ h.val ∧ h.val < lo (pO h) + cnt (pO h) := by revert h; decide
theorem pL_mem (h : Fin 8) : lo (pL h) ≤ h.val ∧ h.val < lo (pL h) + cnt (pL h) := by revert h; decide
theorem pO_uniq (h : Fin 8) (p : Fin 7) (hp : ¬ isL p) (h1 : lo p ≤ h.val) (h2 : h.val < lo p + cnt p) : p = pO h := by revert h p; decide
theorem pL_uniq (h : Fin 8) (p : Fin 7) (hp : isL p) (h1 : lo p ≤ h.val) (h2 : h.val < lo p + cnt p) : p = pL h := by revert h p; decide

theorem setOn_oc (M : Finset S4x8x256x128.Idx) : ocM.view.setOn M = M := Finset.map_refl
theorem setOn_lc (M : Finset S4x8x256.Idx) : lcM.view.setOn M = M := Finset.map_refl
theorem oR_set (s : Fin 4) (h : Fin 8) : (oR s h).set = oset s.val h.val 1 := oset_rect (s := s.val) (l := h.val) (n := 1) rfl rfl
theorem lR_set (h : Fin 8) : (lR h).set = lset 0 h.val 1 := lset_rect (s := 0) (l := h.val) (n := 1) rfl rfl
theorem oR_sub (s : Fin 4) (h : Fin 8) {l n : ℕ} (h1 : l ≤ h.val) (h2 : h.val < l + n) : (oR s h).set ⊆ oset s.val l n := by
  rw [oR_set]
  intro i hi
  simp only [oset, Finset.mem_filter, Finset.mem_univ, _root_.true_and] at hi ⊢
  omega
theorem lR_sub (h : Fin 8) {l n : ℕ} (h1 : l ≤ h.val) (h2 : h.val < l + n) : (lR h).set ⊆ lset 0 l n := by
  rw [lset_rect (s := 0) (l := h.val) (n := 1) rfl rfl]
  intro i hi
  simp only [lset, Finset.mem_filter, Finset.mem_univ, _root_.true_and] at hi ⊢
  omega

/-- Another piece than head `h`'s does not notice that head `h` has been stored. -/
theorem ownP_out (c : Dev nD) (h : Fin 8) (sl : ℕ) (p : Fin 7) (hp : p ≠ pO h) : ownP m ρ c h.val sl p = ownP m ρ c (h.val + 1) sl p := by
  unfold ownP
  by_cases hL : isL p
  · rw [if_pos hL, if_pos hL]
  · rw [if_neg hL, if_neg hL]
    have e : ∀ f : Vec F S4x8x256x128 .bf16, (∀ i ∈ oset 0 (lo p) (cnt p), (i 1 : ℕ) < h.val → f i = OC m ρ c i)
        = (∀ i ∈ oset 0 (lo p) (cnt p), (i 1 : ℕ) < h.val + 1 → f i = OC m ρ c i) := fun f => propext ⟨fun H i hi h1 => H i hi (by
          by_contra h2
          have h3 : (i 1 : ℕ) = h.val := by omega
          simp only [oset, Finset.mem_filter, Finset.mem_univ, _root_.true_and] at hi
          exact hp (pO_uniq h p hL (by omega) (by omega))), fun H i hi h1 => H i hi (by omega)⟩
    simp only [e]
theorem ownP_lse (c : Dev nD) (h : Fin 8) (so : ℕ) (p : Fin 7) (hp : p ≠ pL h) : ownP m ρ c so h.val p = ownP m ρ c so (h.val + 1) p := by
  unfold ownP
  by_cases hL : isL p
  · rw [if_pos hL, if_pos hL]
    have e : ∀ f : Vec F S4x8x256 .f32, (∀ i ∈ lset 0 (lo p) (cnt p), (i 1 : ℕ) < h.val → f i = LC m ρ c i)
        = (∀ i ∈ lset 0 (lo p) (cnt p), (i 1 : ℕ) < h.val + 1 → f i = LC m ρ c i) := fun f => propext ⟨fun H i hi h1 => H i hi (by
          by_contra h2
          have h3 : (i 1 : ℕ) = h.val := by omega
          simp only [lset, Finset.mem_filter, Finset.mem_univ, _root_.true_and] at hi
          exact hp (pL_uniq h p hL (by omega) (by omega))), fun H i hi h1 => H i hi (by omega)⟩
    simp only [e]
  · rw [if_neg hL, if_neg hL]

/-- What the store of head `h` leaves. -/
theorem store_out (c : Dev nD) (h : Fin 8) (f : Vec F S4x8x256x128 .bf16)
    (hf : ∀ i ∈ oset 0 (lo (pO h)) (cnt (pO h)), (i 1 : ℕ) < h.val → f i = OC m ρ c i) :
    ∀ i ∈ oset 0 (lo (pO h)) (cnt (pO h)), (i 1 : ℕ) < h.val + 1 →
      ((ocM.access (oR 0 h)) : View sig .tc _ _ _).write (Elt F) f (oh m ρ c h) Finset.univ i = OC m ρ c i := by
  intro i hi h1
  by_cases hm : i ∈ (oR 0 h).set
  · obtain ⟨y, -, rfl⟩ := Finset.mem_map.mp ((Rect.map_emb_univ (oR 0 h)).symm ▸ hm)
    refine (View.write_emb_of_mem (v := ((ocM.access (oR 0 h)) : View sig .tc _ _ _)) f (oh m ρ c h) (Finset.mem_univ y)).trans ?_
    have y0 : (y 0 : ℕ) < 1 := (y 0).isLt
    have y1 : (y 1 : ℕ) < 1 := (y 1).isLt
    have e0 : ((oR 0 h).emb y) 0 = (0 : Fin 4) := Fin.ext (by show 0 + 1 * (y 0 : ℕ) = 0; omega)
    have e1 : ((oR 0 h).emb y) 1 = h := Fin.ext (by show h.val + 1 * (y 1 : ℕ) = h.val; omega)
    have e2 : ((oR 0 h).emb y) 2 = y 2 := Fin.ext (by show 0 + 1 * (y 2 : ℕ) = y 2; omega)
    have e3 : ((oR 0 h).emb y) 3 = y 3 := Fin.ext (by show 0 + 1 * (y 3 : ℕ) = y 3; omega)
    unfold OC
    rw [e0, e1, e2, e3, bk_zero]
    show oh m ρ c h y = _
    congr 1
    funext a
    match a with
    | ⟨0, _⟩ => exact Fin.ext (by show (y 0 : ℕ) = 0; omega)
    | ⟨1, _⟩ => exact Fin.ext (by show (y 1 : ℕ) = 0; omega)
    | ⟨2, _⟩ => rfl
    | ⟨3, _⟩ => rfl
  · rw [View.write_of_not_mem _ _ _ (by rw [View.setOn_univ]; exact fun hm' => hm (by rwa [View.set_slice_whole] at hm'))]
    refine hf i hi ?_
    by_contra h2
    refine hm ?_
    rw [oR_set]
    have hz : ((0 : Fin 4) : ℕ) = 0 := rfl
    simp only [oset, Finset.mem_filter, Finset.mem_univ, _root_.true_and] at hi ⊢
    omega
theorem store_lse (c : Dev nD) (h : Fin 8) (f : Vec F S4x8x256 .f32)
    (hf : ∀ i ∈ lset 0 (lo (pL h)) (cnt (pL h)), (i 1 : ℕ) < h.val → f i = LC m ρ c i) :
    ∀ i ∈ lset 0 (lo (pL h)) (cnt (pL h)), (i 1 : ℕ) < h.val + 1 →
      ((lcM.access (lR h)) : View sig .tc _ _ _).write (Elt F) f (lh m ρ c h) Finset.univ i = LC m ρ c i := by
  intro i hi h1
  by_cases hm : i ∈ (lR h).set
  · obtain ⟨y, -, rfl⟩ := Finset.mem_map.mp ((Rect.map_emb_univ (lR h)).symm ▸ hm)
    refine (View.write_emb_of_mem (v := ((lcM.access (lR h)) : View sig .tc _ _ _)) f (lh m ρ c h) (Finset.mem_univ y)).trans ?_
    have y0 : (y 0 : ℕ) < 1 := (y 0).isLt
    have y1 : (y 1 : ℕ) < 1 := (y 1).isLt
    have e0 : ((lR h).emb y) 0 = (0 : Fin 4) := Fin.ext (by show 0 + 1 * (y 0 : ℕ) = 0; omega)
    have e1 : ((lR h).emb y) 1 = h := Fin.ext (by show h.val + 1 * (y 1 : ℕ) = h.val; omega)
    have e2 : ((lR h).emb y) 2 = y 2 := Fin.ext (by show 0 + 1 * (y 2 : ℕ) = y 2; omega)
    unfold LC
    rw [e0, e1, e2, bk_zero]
    show lh m ρ c h y = _
    congr 1
    funext a
    match a with
    | ⟨0, _⟩ => exact Fin.ext (by show (y 0 : ℕ) = 0; omega)
    | ⟨1, _⟩ => exact Fin.ext (by show (y 1 : ℕ) = 0; omega)
    | ⟨2, _⟩ => rfl
  · rw [View.write_of_not_mem _ _ _ (by rw [View.setOn_univ]; exact fun hm' => hm (by rwa [View.set_slice_whole] at hm'))]
    refine hf i hi ?_
    by_contra h2
    refine hm ?_
    rw [lset_rect (s := 0) (l := h.val) (n := 1) rfl rfl]
    simp only [lset, Finset.mem_filter, Finset.mem_univ, _root_.true_and] at hi ⊢
    omega

/-- Before a store the kernel loads what is there; any value will do. -/
theorem wp_preO (c : Dev nD) (h : Fin 8) (so sl r : ℕ) (hr : r ≤ (pO h).val)
    {hl : ocM.view.LoadsAt (oR 0 h).toLoadRect}
    {α : Type} {Q : α → sProp 𝕄} {k : Vec F S1x1x256x128 .bf16 → Prog (TpuEff nD τ sig (Elt F) Λ₀ .tc) α} :
    OWN m ρ c so sl r
      ⊢ iprop((OWN m ρ c so sl r -∗ ∀ v, wp frame (wpE (defs₀ (F := F)) 𝒱₀ (c : Thread nD τ) none) Set.univ (k v) Q)
          -∗ wp frame (wpE (defs₀ (F := F)) 𝒱₀ (c : Thread nD τ) none) Set.univ (.op (.load ocM (oR 0 h).toLoadRect hl) k) Q) := by
  have hx : OWN m ρ c so sl r ⊢ iprop(ownP m ρ c so sl (pO h) ∗ (ownP m ρ c so sl (pO h) -∗ OWN m ρ c so sl r)) := by
    have hx := bigSep_upd (F := F) (fun p : Fin 7 => if p.val < r then iprop(emp) else ownP m ρ c so sl p) _ (pO h) fun p _ => rfl
    rw [if_neg (by omega)] at hx
    exact hx
  unfold ownP at hx
  rw [if_neg (pO_not h)] at hx
  iintro H Hk
  ihave H := hx $$ H
  icases H with ⟨⟨%f, %hf, H⟩, Hback⟩
  unfold ptO
  iapply (wp_load 𝒱₀ (c : Thread nD τ) none Set.univ (m := ocM) (by
    rw [setOn_oc]; exact oR_sub 0 h (pO_mem h).1 (pO_mem h).2)) $$ H; iintro H
  ihave Hk := Hk $$ [Hback H]
  · iapply Hback
    iexists f
    isplitr; · ipureintro; exact hf
    iexact H
  iapply Hk
theorem wp_preL (c : Dev nD) (h : Fin 8) (so sl r : ℕ) (hr : r ≤ (pL h).val)
    {hl : lcM.view.LoadsAt (lR h).toLoadRect}
    {α : Type} {Q : α → sProp 𝕄} {k : Vec F S1x1x256 .f32 → Prog (TpuEff nD τ sig (Elt F) Λ₀ .tc) α} :
    OWN m ρ c so sl r
      ⊢ iprop((OWN m ρ c so sl r -∗ ∀ v, wp frame (wpE (defs₀ (F := F)) 𝒱₀ (c : Thread nD τ) none) Set.univ (k v) Q)
          -∗ wp frame (wpE (defs₀ (F := F)) 𝒱₀ (c : Thread nD τ) none) Set.univ (.op (.load lcM (lR h).toLoadRect hl) k) Q) := by
  have hx : OWN m ρ c so sl r ⊢ iprop(ownP m ρ c so sl (pL h) ∗ (ownP m ρ c so sl (pL h) -∗ OWN m ρ c so sl r)) := by
    have hx := bigSep_upd (F := F) (fun p : Fin 7 => if p.val < r then iprop(emp) else ownP m ρ c so sl p) _ (pL h) fun p _ => rfl
    rw [if_neg (by omega)] at hx
    exact hx
  unfold ownP at hx
  rw [if_pos (pL_is h)] at hx
  iintro H Hk
  ihave H := hx $$ H
  icases H with ⟨⟨%f, %hf, H⟩, Hback⟩
  unfold ptL
  iapply (wp_load 𝒱₀ (c : Thread nD τ) none Set.univ (m := lcM) (by
    rw [setOn_lc]; exact lR_sub h (pL_mem h).1 (pL_mem h).2)) $$ H; iintro H
  ihave Hk := Hk $$ [Hback H]
  · iapply Hback
    iexists f
    isplitr; · ipureintro; exact hf
    iexact H
  iapply Hk

/-- Storing head `h`. -/
theorem wp_storeO (c : Dev nD) (h : Fin 8) (sl r so' : ℕ) (hso : so' = h.val + 1) (hr : r ≤ (pO h).val)
    {w : Vec F S1x1x256x128 .bf16} (hw : w = oh m ρ c h)
    {hx : (ocM.access (oR 0 h)).Stores Finset.univ} {hm : (Finset.univ : Finset (oR 0 h).shape.Idx) = Finset.univ ∨ ∀ a, (oR 0 h).stride a = 1}
    {α : Type} {Q : α → sProp 𝕄} {k : PUnit → Prog (TpuEff nD τ sig (Elt F) Λ₀ .tc) α} :
    OWN m ρ c h.val sl r
      ⊢ iprop((OWN m ρ c so' sl r -∗ wp frame (wpE (defs₀ (F := F)) 𝒱₀ (c : Thread nD τ) none) Set.univ (k ⟨⟩) Q)
          -∗ wp frame (wpE (defs₀ (F := F)) 𝒱₀ (c : Thread nD τ) none) Set.univ (.op (.store ocM (oR 0 h) w Finset.univ hx hm) k) Q) := by
  subst hso hw
  have hx : OWN m ρ c h.val sl r ⊢ iprop(ownP m ρ c h.val sl (pO h) ∗ (ownP m ρ c (h.val + 1) sl (pO h) -∗ OWN m ρ c (h.val + 1) sl r)) := by
    have hx := bigSep_upd (F := F) (fun p : Fin 7 => if p.val < r then iprop(emp) else ownP m ρ c h.val sl p)
      (fun p : Fin 7 => if p.val < r then iprop(emp) else ownP m ρ c (h.val + 1) sl p) (pO h) fun p hp => by
        rw [ownP_out m ρ c h sl p hp]
    rw [if_neg (by omega), if_neg (by omega)] at hx
    exact hx
  unfold ownP at hx
  rw [if_neg (pO_not h), if_neg (pO_not h)] at hx
  iintro H Hk
  ihave H := hx $$ H
  icases H with ⟨⟨%f, %hf, H⟩, Hback⟩
  unfold ptO
  iapply (wp_store 𝒱₀ (c : Thread nD τ) none Set.univ (m := ocM) (r := oR 0 h) (Mk := Finset.univ) (by
    rw [View.setOn_univ, View.set_slice_whole]; exact oR_sub 0 h (pO_mem h).1 (pO_mem h).2)) $$ H; iintro H
  iapply Hk
  iapply Hback
  iexists _
  isplitr; · ipureintro; exact store_out m ρ c h f hf
  iexact H
theorem wp_storeL (c : Dev nD) (h : Fin 8) (so r sl' : ℕ) (hsl : sl' = h.val + 1) (hr : r ≤ (pL h).val)
    {w : Vec F S1x1x256 .f32} (hw : w = lh m ρ c h)
    {hx : (lcM.access (lR h)).Stores Finset.univ} {hm : (Finset.univ : Finset (lR h).shape.Idx) = Finset.univ ∨ ∀ a, (lR h).stride a = 1}
    {α : Type} {Q : α → sProp 𝕄} {k : PUnit → Prog (TpuEff nD τ sig (Elt F) Λ₀ .tc) α} :
    OWN m ρ c so h.val r
      ⊢ iprop((OWN m ρ c so sl' r -∗ wp frame (wpE (defs₀ (F := F)) 𝒱₀ (c : Thread nD τ) none) Set.univ (k ⟨⟩) Q)
          -∗ wp frame (wpE (defs₀ (F := F)) 𝒱₀ (c : Thread nD τ) none) Set.univ (.op (.store lcM (lR h) w Finset.univ hx hm) k) Q) := by
  subst hsl hw
  have hx : OWN m ρ c so h.val r ⊢ iprop(ownP m ρ c so h.val (pL h) ∗ (ownP m ρ c so (h.val + 1) (pL h) -∗ OWN m ρ c so (h.val + 1) r)) := by
    have hx := bigSep_upd (F := F) (fun p : Fin 7 => if p.val < r then iprop(emp) else ownP m ρ c so h.val p)
      (fun p : Fin 7 => if p.val < r then iprop(emp) else ownP m ρ c so (h.val + 1) p) (pL h) fun p hp => by
        rw [ownP_lse m ρ c h so p hp]
    rw [if_neg (by omega), if_neg (by omega)] at hx
    exact hx
  unfold ownP at hx
  rw [if_pos (pL_is h), if_pos (pL_is h)] at hx
  iintro H Hk
  ihave H := hx $$ H
  icases H with ⟨⟨%f, %hf, H⟩, Hback⟩
  unfold ptL
  iapply (wp_store 𝒱₀ (c : Thread nD τ) none Set.univ (m := lcM) (r := lR h) (Mk := Finset.univ) (by
    rw [View.setOn_univ, View.set_slice_whole]; exact lR_sub h (pL_mem h).1 (pL_mem h).2)) $$ H; iintro H
  iapply Hk
  iapply Hback
  iexists _
  isplitr; · ipureintro; exact store_lse m ρ c h f hf
  iexact H

/-! ## A full piece goes to its three transfers -/

omit [FloatOps F] [Named F] in
theorem piece_split (c : Dev nD) (p : Fin 7) (s : ℕ) (fo : Vec F S4x8x256x128 .bf16) (fl : Vec F S4x8x256 .f32) :
    (piece c p s fullShare fo fl : sProp 𝕄) ⊣⊢ iprop(piece c p s (sh 0) fo fl ∗ piece c p s (sh 1) fo fl ∗ piece c p s (sh 2) fo fl) := by
  have h1 := PosShare.mem_left_op_right fullShare
  have h2 := PosShare.mem_left_op_right fullShare.right
  unfold piece
  split
  · unfold ptL
    exact ⟨(pointsTo_share h1).1.trans (sep_mono .rfl (pointsTo_share h2).1), (sep_mono .rfl (pointsTo_share h2).2).trans (pointsTo_share h1).2⟩
  · unfold ptO
    exact ⟨(pointsTo_share h1).1.trans (sep_mono .rfl (pointsTo_share h2).1), (sep_mono .rfl (pointsTo_share h2).2).trans (pointsTo_share h1).2⟩

theorem XS_fill (c : Dev nD) (n : Fin 21) (s a : ℕ) (hs : s ≤ n.val) (ha : a ≤ s) :
    iprop(XS m ρ c n.val s a ∗ sendPay m ρ c n) ⊢ XS m ρ c (n.val + 1) s a := by
  have hx : XS m ρ c n.val s a ⊢ iprop(xs m ρ c n.val s a n ∗ (xs m ρ c (n.val + 1) s a n -∗ XS m ρ c (n.val + 1) s a)) :=
    bigSep_upd _ _ n fun k hk => by
      have : k.val ≠ n.val := fun h => hk (Fin.ext h)
      unfold xs
      by_cases h1 : k.val < n.val
      · rw [if_pos h1, if_pos (show k.val < n.val + 1 by omega)]
      · rw [if_neg h1, if_neg (show ¬ k.val < n.val + 1 by omega)]
  have h0 : xs m ρ c n.val s a n = iprop(todoS c n ∗ emp) := by
    unfold xs; rw [if_neg (by omega), if_neg (by omega), if_neg (lt_irrefl _)]
  have h1 : xs m ρ c (n.val + 1) s a n = iprop(todoS c n ∗ sendPay m ρ c n) := by
    unfold xs; rw [if_neg (by omega), if_neg (by omega), if_pos (by omega)]
  rw [h0, h1] at hx
  iintro ⟨H, Hp⟩
  ihave H := hx $$ H
  icases H with ⟨⟨Ht, -⟩, Hback⟩
  iapply Hback
  isplitl [Ht] <;> iassumption

/-- Piece `p` is complete. -/
theorem own_ready (c : Dev nD) (p : Fin 7) (so sl s a : ℕ) (hs : s ≤ 3 * p.val) (ha : a ≤ s)
    (hso : isL p ∨ lo p + cnt p ≤ so) (hsl : ¬ isL p ∨ lo p + cnt p ≤ sl) :
    iprop(OWN m ρ c so sl p.val ∗ XS m ρ c (3 * p.val) s a) ⊢ iprop(OWN m ρ c so sl (p.val + 1) ∗ XS m ρ c (3 * (p.val + 1)) s a) := by
  have hx : OWN m ρ c so sl p.val ⊢ iprop(ownP m ρ c so sl p ∗ (emp -∗ OWN m ρ c so sl (p.val + 1))) := by
    have hx := bigSep_upd (F := F) (fun q : Fin 7 => if q.val < p.val then iprop(emp) else ownP m ρ c so sl q)
      (fun q : Fin 7 => if q.val < p.val + 1 then iprop(emp) else ownP m ρ c so sl q) p fun q hq => by
        have : q.val ≠ p.val := fun h => hq (Fin.ext h)
        by_cases h1 : q.val < p.val
        · rw [if_pos h1, if_pos (show q.val < p.val + 1 by omega)]
        · rw [if_neg h1, if_neg (show ¬ q.val < p.val + 1 by omega)]
    rw [if_neg (lt_irrefl _), if_pos (show p.val < p.val + 1 by omega)] at hx
    exact hx
  have hp : ownP m ρ c so sl p ⊢ piece c p 0 fullShare (OC m ρ c) (LC m ρ c) := by
    unfold ownP piece
    by_cases hL : isL p
    · rw [if_pos hL, if_pos hL]
      have h2 := hsl.resolve_left (fun h => h hL)
      iintro ⟨%f, %hf, H⟩
      have e : (ptL c 0 (lo p) (cnt p) fullShare f : sProp 𝕄) = ptL c 0 (lo p) (cnt p) fullShare (LC m ρ c) := by
        unfold ptL
        exact pointsTo_congr fun i hi => hf i hi (by
          simp only [lset, Finset.mem_filter, Finset.mem_univ, _root_.true_and] at hi; omega)
      rw [← e]; iexact H
    · rw [if_neg hL, if_neg hL]
      have h2 := hso.resolve_left hL
      iintro ⟨%f, %hf, H⟩
      have e : (ptO c 0 (lo p) (cnt p) fullShare f : sProp 𝕄) = ptO c 0 (lo p) (cnt p) fullShare (OC m ρ c) := by
        unfold ptO
        exact pointsTo_congr fun i hi => hf i hi (by
          simp only [oset, Finset.mem_filter, Finset.mem_univ, _root_.true_and] at hi; omega)
      rw [← e]; iexact H
  have hd : ∀ (d : Fin 3) (n : Fin 21), n.val = 3 * p.val + d.val → sendPay m ρ c n = piece c p 0 (sh d) (OC m ρ c) (LC m ρ c) := by
    intro d n hn
    have e1 : pp n = p := Fin.ext (by show n.val / 3 = p.val; omega)
    have e2 : dd n = d := Fin.ext (by show n.val % 3 = d.val; omega)
    unfold sendPay pieceC; rw [e1, e2]
  have f0 := XS_fill m ρ c ⟨3 * p.val, by omega⟩ s a (by show s ≤ 3 * p.val; omega) ha
  have f1 := XS_fill m ρ c ⟨3 * p.val + 1, by omega⟩ s a (by show s ≤ 3 * p.val + 1; omega) ha
  have f2 := XS_fill m ρ c ⟨3 * p.val + 2, by omega⟩ s a (by show s ≤ 3 * p.val + 2; omega) ha
  rw [hd 0 _ rfl] at f0
  rw [hd 1 _ rfl] at f1
  rw [hd 2 _ rfl] at f2
  iintro ⟨HW, HX⟩
  ihave HW := hx $$ HW
  icases HW with ⟨Hp, Hback⟩
  ihave Hp := hp $$ Hp
  ihave Hp := (piece_split c p 0 (OC m ρ c) (LC m ρ c)).1 $$ Hp
  icases Hp with ⟨H0, H1, H2⟩
  isplitl [Hback]
  · iapply Hback; iempintro
  ihave HX := f0 $$ [HX H0]
  · isplitl [HX] <;> iassumption
  ihave HX := f1 $$ [HX H1]
  · isplitl [HX] <;> iassumption
  ihave HX := f2 $$ [HX H2]
  · isplitl [HX] <;> iassumption
  iexact HX

/-! ## The loads of the merge -/

theorem pO_hit (s : Fin 4) (h : Fin 8) : (ocM.view.setOn (oR s h).set) ⊆ oset s.val (lo (pO h)) (cnt (pO h)) := by
  rw [setOn_oc]; exact oR_sub s h (pO_mem h).1 (pO_mem h).2
def hL : Fin 2 → Fin 7 := ![2, 6]
theorem hL_is (b : Fin 2) : isL (hL b) := by revert b; decide
theorem lQ_hit (s : Fin 4) (b : Fin 2) : (lcM.view.setOn (lQ s b).set) ⊆ lset s.val (lo (hL b)) (cnt (hL b)) := by
  rw [setOn_lc, lset_rect (s := s.val) (l := 4 * b.val) (n := 4) rfl rfl]
  intro i hi
  simp only [lset, Finset.mem_filter, Finset.mem_univ, _root_.true_and] at hi ⊢
  have hb : ∀ b : Fin 2, lo (hL b) = 4 * b.val ∧ cnt (hL b) = 4 := by decide
  have := hb b
  omega

/-- The transfer of piece `p` in direction `d`. -/
def tr (p : Fin 7) (d : Fin 3) : Fin 21 := ⟨3 * p.val + d.val, by omega⟩
theorem pp_tr (p d) : pp (tr p d) = p := by revert p d; decide
theorem dd_tr (p d) : dd (tr p d) = d := by revert p d; decide

/-- Slot 0's piece `p` may be read once its first transfer's departure is waited for. -/
theorem XS_read (c : Dev nD) (p : Fin 7) (r s a : ℕ) (ha : (tr p 0).val < a) :
    XS m ρ c r s a ⊢ iprop(piece c p 0 (sh 0) (OC m ρ c) (LC m ρ c) ∗ (piece c p 0 (sh 0) (OC m ρ c) (LC m ρ c) -∗ XS m ρ c r s a)) := by
  have hx : XS m ρ c r s a ⊢ iprop(xs m ρ c r s a (tr p 0) ∗ (xs m ρ c r s a (tr p 0) -∗ XS m ρ c r s a)) :=
    bigSep_upd _ _ (tr p 0) fun _ _ => rfl
  have h1 : xs m ρ c r s a (tr p 0) = iprop(piece c p 0 (sh 0) (OC m ρ c) (LC m ρ c) ∗ semVal (sendCell c (tr p 0)) 0) := by
    unfold xs; rw [if_pos ha]; unfold sendPay pieceC; rw [pp_tr, dd_tr]
  rw [h1] at hx
  iintro H
  ihave H := hx $$ H
  icases H with ⟨⟨Hp, Hv⟩, Hback⟩
  isplitl [Hp]; · iexact Hp
  iintro Hp
  iapply Hback
  isplitl [Hp] <;> iassumption
/-- Another slot's piece may be read once its arrival is waited for. -/
theorem XR_read (c : Dev nD) (p : Fin 7) (d : Fin 3) (b : ℕ) (hb : (tr p d).val < b) :
    XR m ρ c b ⊢ iprop(piece c p (d.val + 1) fullShare (OC m ρ c) (LC m ρ c) ∗ (piece c p (d.val + 1) fullShare (OC m ρ c) (LC m ρ c) -∗ XR m ρ c b)) := by
  have hx : XR m ρ c b ⊢ iprop(xr m ρ c b (tr p d) ∗ (xr m ρ c b (tr p d) -∗ XR m ρ c b)) :=
    bigSep_upd _ _ (tr p d) fun _ _ => rfl
  have h1 : xr m ρ c b (tr p d) = iprop(piece c p (d.val + 1) fullShare (OC m ρ c) (LC m ρ c) ∗ semVal (recvCell c (tr p d)) 0) := by
    unfold xr; rw [if_pos hb]; unfold recvPay pieceC; rw [pp_tr, dd_tr]
  rw [h1] at hx
  iintro H
  ihave H := hx $$ H
  icases H with ⟨⟨Hp, Hv⟩, Hback⟩
  isplitl [Hp]; · iexact Hp
  iintro Hp
  iapply Hback
  isplitl [Hp] <;> iassumption

/-- Any slot's piece, from both. -/
theorem slot_read (c : Dev nD) (p : Fin 7) (s' : Fin 4) (r s a b : ℕ) (ha : 3 * p.val < a) (hb : 3 * p.val + 2 < b) :
    iprop(XS m ρ c r s a ∗ XR m ρ c b) ⊢ iprop(∃ q, piece c p s'.val q (OC m ρ c) (LC m ρ c)
      ∗ (piece c p s'.val q (OC m ρ c) (LC m ρ c) -∗ (XS m ρ c r s a ∗ XR m ρ c b))) := by
  rcases Fin.eq_zero_or_eq_succ s' with rfl | ⟨d, rfl⟩
  · iintro ⟨HX, HR⟩
    ihave HX := (XS_read m ρ c p r s a ha) $$ HX
    icases HX with ⟨Hp, Hback⟩
    iexists (sh 0)
    isplitl [Hp]; · iexact Hp
    iintro Hp
    isplitl [Hback Hp]
    · iapply Hback; iexact Hp
    iexact HR
  · iintro ⟨HX, HR⟩
    ihave HR := (XR_read m ρ c p d b (by show 3 * p.val + d.val < b; omega)) $$ HR
    icases HR with ⟨Hp, Hback⟩
    iexists fullShare
    isplitl [Hp]; · iexact Hp
    iintro Hp
    isplitl [HX]; · iexact HX
    iapply Hback; iexact Hp

theorem wp_mergeO (c : Dev nD) (s' : Fin 4) (h : Fin 8) (r s a b : ℕ) (ha : 3 * (pO h).val < a) (hb : 3 * (pO h).val + 2 < b)
    {hl : ocM.view.LoadsAt (oR s' h).toLoadRect}
    {α : Type} {Q : α → sProp 𝕄} {k : Vec F S1x1x256x128 .bf16 → Prog (TpuEff nD τ sig (Elt F) Λ₀ .tc) α} :
    iprop(XS m ρ c r s a ∗ XR m ρ c b)
      ⊢ iprop(((XS m ρ c r s a ∗ XR m ρ c b) -∗ wp frame (wpE (defs₀ (F := F)) 𝒱₀ (c : Thread nD τ) none) Set.univ
            (k (ocM.view.readAt (Elt F) (oR s' h).toLoadRect (OC m ρ c))) Q)
          -∗ wp frame (wpE (defs₀ (F := F)) 𝒱₀ (c : Thread nD τ) none) Set.univ (.op (.load ocM (oR s' h).toLoadRect hl) k) Q) := by
  have hx := slot_read m ρ c (pO h) s' r s a b ha hb
  unfold piece at hx
  simp only [if_neg (pO_not h)] at hx
  unfold ptO at hx
  iintro H Hk
  ihave H := hx $$ H
  icases H with ⟨%q, H, Hback⟩
  iapply (wp_load 𝒱₀ (c : Thread nD τ) none Set.univ (m := ocM) (pO_hit s' h)) $$ H; iintro H
  iapply Hk
  iapply Hback
  iexact H
theorem wp_mergeL (c : Dev nD) (s' : Fin 4) (h : Fin 2) (r s a b : ℕ) (ha : 3 * (hL h).val < a) (hb : 3 * (hL h).val + 2 < b)
    {hl : lcM.view.LoadsAt (lQ s' h).toLoadRect}
    {α : Type} {Q : α → sProp 𝕄} {k : Vec F S1x4x256 .f32 → Prog (TpuEff nD τ sig (Elt F) Λ₀ .tc) α} :
    iprop(XS m ρ c r s a ∗ XR m ρ c b)
      ⊢ iprop(((XS m ρ c r s a ∗ XR m ρ c b) -∗ wp frame (wpE (defs₀ (F := F)) 𝒱₀ (c : Thread nD τ) none) Set.univ
            (k (lcM.view.readAt (Elt F) (lQ s' h).toLoadRect (LC m ρ c))) Q)
          -∗ wp frame (wpE (defs₀ (F := F)) 𝒱₀ (c : Thread nD τ) none) Set.univ (.op (.load lcM (lQ s' h).toLoadRect hl) k) Q) := by
  have hx := slot_read m ρ c (hL h) s' r s a b ha hb
  unfold piece at hx
  simp only [if_pos (hL_is h)] at hx
  unfold ptL at hx
  iintro H Hk
  ihave H := hx $$ H
  icases H with ⟨%q, H, Hback⟩
  iapply (wp_load 𝒱₀ (c : Thread nD τ) none Set.univ (m := lcM) (lQ_hit s' h)) $$ H; iintro H
  iapply Hk
  iapply Hback
  iexact H

end Cert.KProof

end
-- ==== Proof.Ring.lean ====
/- The rings of three slots through which a device's keys and values are fetched, one head at a time. -/
module

public import proofs.«01_k».proof.Proof.Geom
public import Idealize.ShloMosaic.Lib.Transfers
public import Idealize.ShloMosaic.Lib.ValueLayout

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

/-- A head of an array of keys or values, and a slot of a ring, as the fetches name them. -/
abbrev headR (h : Fin 8) : Rect S4096x8x128 := Rect.unit (s := S4096x8x128) ![0, h.val, 0] S4096x1x128.size (by revert h; decide)
abbrev slotR (j : Fin 3) : Rect S3x4096x128 := Rect.unit (s := S3x4096x128) ![j.val, 0, 0] S1x4096x128.size (by revert j; decide)
abbrev srcM (aM : Memref sig .tc .hbm S4096x8x128 .f32) (h : Fin 8) : Memref sig .tc .hbm S4096x128 .f32 :=
  (aM.slice (headR h) (fun _ => rfl)).squeeze S4096x128 squeezes_S4096x1x128_S4096x128
abbrev dstM (bM : Memref sig .tc .vmem S3x4096x128 .f32) (j : Fin 3) : Memref sig .tc .vmem S4096x128 .f32 :=
  (bM.slice (slotR j) (fun _ => rfl)).squeeze S4096x128 squeezes_S1x4096x128_S4096x128

variable (aM : Memref sig .tc .hbm S4096x8x128 .f32) (bM : Memref sig .tc .vmem S3x4096x128 .f32)

omit [FloatOps F] [Named F] in
theorem slot_set (j : Fin 3) : bM.view.setOn (slotR j).set = (dstM bM j).view.set :=
  ((View.set_reshape (bM.view.slice (slotR j)) _).trans (View.set_slice bM.view (slotR j))).symm

theorem re_slot (h : (⟨2, ![4096, 128]⟩ : Shape).numel = (⟨3, ![1, 4096, 128]⟩ : Shape).numel) (p : Fin 4096) (q : Fin 128) :
    Shape.reshapeEquiv h (ix2 p q) = ix3 (⟨0, Nat.one_pos⟩ : Fin 1) p q := reshapeEquiv_ix2_1ab h p q
theorem re_head (h : (⟨2, ![4096, 128]⟩ : Shape).numel = (⟨3, ![4096, 1, 128]⟩ : Shape).numel) (p : Fin 4096) (q : Fin 128) :
    Shape.reshapeEquiv h (ix2 p q) = ix3 p (0 : Fin 1) q :=
  Shape.reshapeEquiv_eq_of_rowMajor h (by
    rw [Shape.rowMajor_val_three, Shape.rowMajor_val_two]
    show (p.val * 1 + 0) * 128 + q.val = p.val * 128 + q.val
    rw [Nat.mul_one, Nat.add_zero])

/-- A slot filled with a head reads as that head. -/
theorem read_slot (j : Fin 3) (h : Fin 8) (fd : bM.view.ty.Contents (Elt F)) (fs : aM.view.ty.Contents (Elt F)) :
    bM.view.readAt (Elt F) (slotR j).toLoadRect ((dstM bM j).view.write (Elt F) fd ((srcM aM h).view.read (Elt F) fs) Finset.univ)
      = headOf (aM.view.read (Elt F) fs) h := by
  funext i
  obtain ⟨y, rfl⟩ := (Shape.reshapeEquiv squeezes_S1x4096x128_S4096x128.numel_eq).surjective i
  have hr := congrFun (View.read_write_univ (v := (dstM bM j).view) (Val := Elt F) fd ((srcM aM h).view.read (Elt F) fs)) y
  refine Eq.trans ?_ (hr.trans ?_)
  · rfl
  show aM.view.read (Elt F) fs ((headR h).emb (Shape.reshapeEquiv _ y)) = _
  obtain ⟨p, q, rfl⟩ : ∃ (p : Fin 4096) (q : Fin 128), y = ix2 p q := ⟨y 0, y 1, by funext a; match a with | ⟨0, _⟩ => rfl | ⟨1, _⟩ => rfl⟩
  rw [re_head, re_slot]
  unfold headOf
  congr 1
  funext a
  match a with
  | ⟨0, _⟩ => exact Fin.ext (by show 0 + 1 * p.val = p.val; omega)
  | ⟨1, _⟩ => exact Fin.ext (by show h.val + 1 * 0 = h.val; omega)
  | ⟨2, _⟩ => exact Fin.ext (by show 0 + 1 * q.val = q.val; omega)

/-! ## The state of a ring: `ks` fetches started, `kw` waited for

An index `i` is a head `i - 3` fetched into slot `i % 3`; the first three indices stand for the slots as they are at first. -/

def sl (i : Fin 11) : Fin 3 := ⟨i.val % 3, Nat.mod_lt _ (by decide)⟩
def hd (i : Fin 11) : Fin 8 := ⟨i.val - 3, by omega⟩
def up (h : Fin 8) : Fin 11 := ⟨h.val + 3, by omega⟩
def fr (h : Fin 8) : Fin 11 := ⟨h.val, by omega⟩
theorem hd_up (h : Fin 8) : hd (up h) = h := by revert h; decide
theorem sl_up (h : Fin 8) : sl (up h) = sl (fr h) := by revert h; decide

variable (sem : Fin 3 → DmaSem sig) (c : Dev nD) (A : Buf (Elt F) (aM.view.loc (c : Thread nD τ)))

/-- A head at its array; a slot at contents. -/
def srcPt (h : Fin 8) : sProp 𝕄 := aM.view.loc (c : Thread nD τ) ↦[(srcM aM h).view.set]{fullShare} A
def slotPt (j : Fin 3) (f : Buf (Elt F) (bM.view.loc (c : Thread nD τ))) : sProp 𝕄 :=
  bM.view.loc (c : Thread nD τ) ↦[(dstM bM j).view.set]{fullShare} f
/-- A slot that holds what index `i` says, its semaphore at zero. -/
def slotOk (i : Fin 11) : sProp 𝕄 :=
  iprop(∃ f, ⌜3 ≤ i.val → bM.view.readAt (Elt F) (slotR (sl i)).toLoadRect f = headOf (aM.view.read (Elt F) A) (hd i)⌝
    ∗ slotPt bM c (sl i) f ∗ semVal ((c : Thread nD τ), .dma (sem (sl i))) 0)
/-- A fetch's credit. -/
def NL : ℕ := RefSig.tileCredit S4096x128 .f32
theorem NL_pos : 0 < NL := by decide
/-- A fetch in flight. -/
def fly (i : Fin 11) : sProp 𝕄 :=
  iprop(∃ fd : Buf (Elt F) (bM.view.loc (c : Thread nD τ)), Transfers.Flight countersEmb (c : Thread nD τ) (.dma (sem (sl i))) () NL
    iprop(slotPt bM c (sl i) ((dstM bM (sl i)).view.write (Elt F) fd ((srcM aM (hd i)).view.read (Elt F) A) Finset.univ)
      ∗ srcPt aM c A (hd i)))
def kb (ks kw : ℕ) (i : Fin 11) : sProp 𝕄 :=
  if i.val < kw + 3 then iprop((if 3 ≤ i.val then srcPt aM c A (hd i) else emp) ∗ (if ks ≤ i.val then slotOk aM bM sem c A i else emp))
  else if i.val < ks + 3 then fly aM bM sem c A i
  else srcPt aM c A (hd i)
def KB (ks kw : ℕ) : sProp 𝕄 := bigSep Finset.univ (kb aM bM sem c A ks kw)

/-- Starting the fetch of head `h`. -/
theorem wp_fetch (h : Fin 8) (kw : ℕ) (hkw : h.val < kw + 3) (hk : kw ≤ h.val) (j : Fin 3) (hj : j = sl (fr h)) (q : DmaSem sig) (hq : q = sem j)
    {hsrc : (srcM aM h).view.WordExact} {hdst : (dstM bM j).view.WordExact} {hsem : DmaTarget.Typed (nD := nD) (τ := τ) .hbm (.dma q) (.here (p := .tc) (dstM bM j))}
    {α : Type} {Q : α → sProp 𝕄} {k : PUnit → Prog (TpuEff nD τ sig (Elt F) Λ₀ .tc) α} :
    KB aM bM sem c A h.val kw
      ⊢ iprop((KB aM bM sem c A (h.val + 1) kw -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM aM h) (.here (dstM bM j)) (.dma q) hsrc hdst hsem) k) Q) := by
  subst hj hq
  have hx : KB aM bM sem c A h.val kw ⊢ iprop(kb aM bM sem c A h.val kw (fr h) ∗ kb aM bM sem c A h.val kw (up h)
      ∗ (kb aM bM sem c A (h.val + 1) kw (fr h) -∗ kb aM bM sem c A (h.val + 1) kw (up h) -∗ KB aM bM sem c A (h.val + 1) kw)) :=
    bigSep_upd2 _ _ (fr h) (up h) (fun e => by have := congrArg Fin.val e; simp [fr, up] at this) fun i h1 h2 => by
      have e1 : i.val ≠ h.val := fun e => h1 (Fin.ext e)
      have e2 : i.val ≠ h.val + 3 := fun e => h2 (Fin.ext e)
      unfold kb
      by_cases c1 : i.val < kw + 3
      · rw [if_pos c1, if_pos c1]
        by_cases c2 : h.val ≤ i.val
        · rw [if_pos c2, if_pos (show h.val + 1 ≤ i.val by omega)]
        · rw [if_neg c2, if_neg (show ¬ h.val + 1 ≤ i.val by omega)]
      · rw [if_neg c1, if_neg c1]
        by_cases c2 : i.val < h.val + 3
        · rw [if_pos c2, if_pos (show i.val < h.val + 1 + 3 by omega)]
        · rw [if_neg c2, if_neg (show ¬ i.val < h.val + 1 + 3 by omega)]
  have e1 : kb aM bM sem c A h.val kw (fr h) = iprop((if 3 ≤ h.val then srcPt aM c A (hd (fr h)) else emp) ∗ slotOk aM bM sem c A (fr h)) := by
    unfold kb; rw [if_pos (show (fr h).val < kw + 3 from hkw), if_pos (show h.val ≤ (fr h).val from le_refl _)]; rfl
  have e2 : kb aM bM sem c A h.val kw (up h) = srcPt aM c A h := by
    unfold kb; rw [if_neg (show ¬ (up h).val < kw + 3 from by show ¬ h.val + 3 < _; omega), if_neg (show ¬ (up h).val < h.val + 3 from by show ¬ h.val + 3 < _; omega), hd_up]
  have e3 : kb aM bM sem c A (h.val + 1) kw (fr h) = iprop((if 3 ≤ h.val then srcPt aM c A (hd (fr h)) else emp) ∗ emp) := by
    unfold kb; rw [if_pos (show (fr h).val < kw + 3 from hkw), if_neg (show ¬ h.val + 1 ≤ (fr h).val from by show ¬ h.val + 1 ≤ h.val; omega)]; rfl
  have e4 : kb aM bM sem c A (h.val + 1) kw (up h) = fly aM bM sem c A (up h) := by
    unfold kb; rw [if_neg (show ¬ (up h).val < kw + 3 from by show ¬ h.val + 3 < _; omega), if_pos (show (up h).val < h.val + 1 + 3 from by show h.val + 3 < _; omega)]
  rw [e1, e2, e3, e4] at hx
  unfold fly at hx
  rw [sl_up, hd_up] at hx
  iintro H Hk
  ihave H := hx $$ H
  icases H with ⟨⟨Ha, Hs⟩, Hsrc, Hback⟩
  unfold slotOk
  icases Hs with ⟨%fd, -, Hd, Hv⟩
  unfold srcPt slotPt
  iapply (Transfers.wp_dmaLocal countersEmb 𝒱₀ (c : Thread nD τ) none (src := srcM aM h) (dst := dstM bM (sl (fr h))) () NL rfl NL_pos (subset_refl _)) $$ [Hsrc Hd Hv]
  · isplitl [Hsrc]; · iexact Hsrc
    isplitl [Hd] <;> iassumption
  iintro HF
  iapply Hk
  iapply Hback $$ [Ha]
  · isplitl [Ha]; · iexact Ha
    iempintro
  iexists fd; iexact HF

/-- Waiting for the fetch of head `h`. -/
theorem wp_fetched (m : (ℓ : Loc nD τ sig) → Buf (Elt F) ℓ) (ρ : Dev nD → PrngReg) (K : Dev nD × CI → ℕ)
    (h : Fin 8) (ks s : ℕ) (h1 : h.val < ks) (h2 : ks ≤ h.val + 3) (hlv : ∀ j, lvOf (.dma (sem j)) = 0)
    (j : Fin 3) (hj : j = sl (fr h)) (q : DmaSem sig) (hq : q = sem j)
    {sp : Space} {s' : Shape} {e' : EltTy} {srcw : Memref sig .tc sp s' e'}
    {hsrc : srcw.view.WordExact} {hdst : (dstM bM j).view.WordExact}
    {α : Type} {Q : α → sProp 𝕄} {k : PUnit → Prog (TpuEff nD τ sig (Elt F) Λ₀ .tc) α} :
    iprop(pers m ρ K ∗ KB aM bM sem c A ks h.val ∗ owesE c s)
      ⊢ iprop(((KB aM bM sem c A ks (h.val + 1) ∗ owesE c s) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q srcw (dstM bM j) hsrc hdst) k) Q) := by
  subst hj hq
  have hx : KB aM bM sem c A ks h.val ⊢ iprop(kb aM bM sem c A ks h.val (up h)
      ∗ (kb aM bM sem c A ks (h.val + 1) (up h) -∗ KB aM bM sem c A ks (h.val + 1))) :=
    bigSep_upd _ _ (up h) fun i h2 => by
      have e2 : i.val ≠ h.val + 3 := fun e => h2 (Fin.ext e)
      unfold kb
      by_cases c1 : i.val < h.val + 3
      · rw [if_pos c1, if_pos (show i.val < h.val + 1 + 3 by omega)]
      · rw [if_neg c1, if_neg (show ¬ i.val < h.val + 1 + 3 by omega)]
  have e2 : kb aM bM sem c A ks h.val (up h) = fly aM bM sem c A (up h) := by
    unfold kb; rw [if_neg (show ¬ (up h).val < h.val + 3 from by show ¬ h.val + 3 < _; omega), if_pos (show (up h).val < ks + 3 from by show h.val + 3 < _; omega)]
  have e4 : kb aM bM sem c A ks (h.val + 1) (up h) = iprop(srcPt aM c A (hd (up h)) ∗ slotOk aM bM sem c A (up h)) := by
    unfold kb; rw [if_pos (show (up h).val < h.val + 1 + 3 from by show h.val + 3 < _; omega), if_pos (show 3 ≤ (up h).val from by show 3 ≤ h.val + 3; omega),
      if_pos (show ks ≤ (up h).val from h2)]
  rw [e2, e4] at hx
  unfold fly slotOk at hx
  rw [sl_up, hd_up] at hx
  iintro ⟨#HP, H, HO⟩ Hk
  ihave H := hx $$ H
  icases H with ⟨⟨%fd, HF⟩, Hback⟩
  unfold owesE
  icases HO with ⟨%W, HO⟩
  iapply (Transfers.wp_waitLocalO countersEmb 𝒱₀ (c : Thread nD τ) none (dstw := dstM bM (sl (fr h))) () (N := NL) rfl (O := owS c s) (W := W)) $$ [HF HO]
  · isplitl [HF]; · iexact HF
    isplitl [HO]; · iexact HO
    iapply (mayWait_owS (F := F) c (.dma (sem (sl (fr h)))) s (by
      rw [hlv]; intro n _; split <;> decide))
    iapply (pers_lev m ρ K); iexact HP
  iintro ⟨⟨Hd, Hs⟩, Hv, HO⟩
  iapply Hk
  isplitl [Hback Hd Hs Hv]
  · iapply Hback
    isplitl [Hs]; · iexact Hs
    iexists _
    isplitr
    · ipureintro; intro _; exact read_slot aM bM (sl (fr h)) h fd A
    isplitl [Hd] <;> iassumption
  · iexists _; iexact HO

/-- Loading head `h` from its slot. -/
theorem wp_headLoad (h : Fin 8) (ks kw : ℕ) (h1 : h.val < kw) (h2 : ks ≤ h.val + 3) (j : Fin 3) (hj : j = sl (fr h))
    {hl : bM.view.LoadsAt (slotR j).toLoadRect}
    {α : Type} {Q : α → sProp 𝕄} {k : Vec F S1x4096x128 .f32 → Prog (TpuEff nD τ sig (Elt F) Λ₀ .tc) α} :
    KB aM bM sem c A ks kw
      ⊢ iprop((KB aM bM sem c A ks kw -∗ wp frame (wpE (defs₀ (F := F)) 𝒱₀ (c : Thread nD τ) none) Set.univ (k (headOf (aM.view.read (Elt F) A) h)) Q)
          -∗ wp frame (wpE (defs₀ (F := F)) 𝒱₀ (c : Thread nD τ) none) Set.univ
              (.op (.load bM (slotR j).toLoadRect hl) k) Q) := by
  subst hj
  have hx : KB aM bM sem c A ks kw ⊢ iprop(kb aM bM sem c A ks kw (up h) ∗ (kb aM bM sem c A ks kw (up h) -∗ KB aM bM sem c A ks kw)) :=
    bigSep_upd _ _ (up h) fun i h2 => rfl
  have e4 : kb aM bM sem c A ks kw (up h) = iprop(srcPt aM c A (hd (up h)) ∗ slotOk aM bM sem c A (up h)) := by
    unfold kb; rw [if_pos (show (up h).val < kw + 3 from by show h.val + 3 < _; omega), if_pos (show 3 ≤ (up h).val from by show 3 ≤ h.val + 3; omega),
      if_pos (show ks ≤ (up h).val from h2)]
  rw [e4] at hx
  unfold slotOk at hx
  rw [sl_up, hd_up] at hx
  iintro H Hk
  ihave H := hx $$ H
  icases H with ⟨⟨Hs, %f, %hf, Hd, Hv⟩, Hback⟩
  unfold slotPt
  iapply (wp_load 𝒱₀ (c : Thread nD τ) none Set.univ (m := bM) (le_of_eq (slot_set bM (sl (fr h))))) $$ Hd; iintro Hd
  rw [hf (by show 3 ≤ h.val + 3; omega)]
  iapply Hk
  iapply Hback
  isplitl [Hs]; · iexact Hs
  iexists f
  isplitr; · ipureintro; exact hf
  isplitl [Hd] <;> iassumption

end Cert.KProof

end
-- ==== Proof.Steps.lean ====
/- The state of a device between two operations of the body, and one step of it for each kind of operation. -/
module

public import proofs.«01_k».proof.Proof.Own
public import proofs.«01_k».proof.Proof.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## Rectangles of the communication buffers -/

/-- The staged arguments and result of device `c`, and its barrier cell once it is closed. -/
def SG (c : Dev nD) : sProp 𝕄 :=
  iprop((xM.view.loc (c : Thread nD τ) ↦{fullShare} xv m ρ c) ∗ (wqM.view.loc (c : Thread nD τ) ↦{fullShare} wqv m ρ c)
    ∗ (woM.view.loc (c : Thread nD τ) ↦{fullShare} wov m ρ c) ∗ (∃ f, outM.view.loc (c : Thread nD τ) ↦{fullShare} f) ∗ semVal (barCell c) 0)

abbrev KK (c : Dev nD) (ks kw : ℕ) : sProp 𝕄 := KB kM kbM (lS false) c (ka m ρ c) ks kw
abbrev VV (c : Dev nD) (ks kw : ℕ) : sProp 𝕄 := KB vM vbM (lS true) c (va m ρ c) ks kw

/-- Between two operations: `ks`, `vs` fetches started and `kw`, `vw` waited for, `s` transfers started, `so` heads and `sl`
log-sums stored, `r` pieces complete, `a` departures and `b` arrivals waited for. -/
def St (c : Dev nD) (ks kw vs vw s so sl r a b : ℕ) : sProp 𝕄 :=
  iprop(pers m ρ K ∗ SG m ρ c ∗ KK m ρ c ks kw ∗ VV m ρ c vs vw ∗ owesE c s ∗ OWN m ρ c so sl r ∗ XS m ρ c (3 * r) s a ∗ XR m ρ c b)

abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {m ρ K}
variable {c : Dev nD} {ks kw vs vw s so sl r a b : ℕ}

/-- Returning, and calling a part. -/
theorem st_ret {α : Type} {Q : α → sProp 𝕄} {P : sProp 𝕄} {x : α} (h : P ⊢ Q x) : P ⊢ W c (.ret x) Q := by
  rw [show W c (.ret x) Q = iprop(|={Set.univ}[frame]=> Q x) from rfl]
  iintro H; imodintro; iapply h; iexact H
theorem st_bind {α : Type} {Q : α → sProp 𝕄} {β : Type} {P : sProp 𝕄} {p : Prog (TpuEff nD τ sig (Elt F) Λ₀ .tc) β} {k : β → Prog (TpuEff nD τ sig (Elt F) Λ₀ .tc) α}
    (h : P ⊢ W c p (fun x => W c (k x) Q)) : P ⊢ W c (p >>= k) Q := by
  unfold W; rw [wp_bind]; exact h
theorem st_bind_lift {α : Type} {Q : α → sProp 𝕄} {β : Type} {P : sProp 𝕄} {e : TpuEff nD τ sig (Elt F) Λ₀ .tc β} {k : β → Prog (TpuEff nD τ sig (Elt F) Λ₀ .tc) α}
    (h : P ⊢ W c (.op e k) Q) : P ⊢ W c (Prog.lift e >>= k) Q := h

/-! ## The rings -/

theorem st_fetchK {α : Type} {Q : α → sProp 𝕄} (h' : Fin 8) (hks : ks = h'.val := by rfl) (hkw : h'.val < kw + 3 := by decide) (hk : kw ≤ h'.val := by decide)
    {q : DmaSem sig} (hq : q = lS false (KProof.sl (fr h')) := by decide)
    {hsrc : (srcM kM h').view.WordExact} {hdst : (dstM kbM (KProof.sl (fr h'))).view.WordExact} {hsem : DmaTarget.Typed (nD := nD) (τ := τ) .hbm (.dma q) (.here (p := .tc) (dstM kbM (KProof.sl (fr h'))))}
    {k : PUnit → Prog (TpuEff nD τ sig (Elt F) Λ₀ .tc) α} (h : St m ρ K c (h'.val + 1) kw vs vw s so sl r a b ⊢ W c (k ⟨⟩) Q) :
    St m ρ K c ks kw vs vw s so sl r a b ⊢ W c (.op (.enqueueDma (srcM kM h') (.here (dstM kbM (KProof.sl (fr h')))) (.dma q) hsrc hdst hsem) k) Q := by
  subst hks
  unfold St
  iintro ⟨#HP, HG, HK, HV, HO, HW, HX, HR⟩
  iapply (wp_fetch kM kbM (lS false) c (ka m ρ c) h' kw hkw hk _ rfl q hq) $$ [HK]
  · iexact HK
  iintro HK
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR
theorem st_fetchedK {α : Type} {Q : α → sProp 𝕄} (h' : Fin 8) (hkw : kw = h'.val := by rfl) (h1 : h'.val < ks := by decide) (h2 : ks ≤ h'.val + 3 := by decide)
    {q : DmaSem sig} (hq : q = lS false (KProof.sl (fr h')) := by decide)
    {sp : Space} {s' : Shape} {e' : EltTy} {srcw : Memref sig .tc sp s' e'}
    {hsrc : srcw.view.WordExact} {hdst : (dstM kbM (KProof.sl (fr h'))).view.WordExact}
    {k : PUnit → Prog (TpuEff nD τ sig (Elt F) Λ₀ .tc) α} (h : St m ρ K c ks (h'.val + 1) vs vw s so sl r a b ⊢ W c (k ⟨⟩) Q) :
    St m ρ K c ks kw vs vw s so sl r a b ⊢ W c (.op (.waitDma2 q srcw (dstM kbM (KProof.sl (fr h'))) hsrc hdst) k) Q := by
  subst hkw
  unfold St
  iintro ⟨#HP, HG, HK, HV, HO, HW, HX, HR⟩
  iapply (wp_fetched kM kbM (lS false) c (ka m ρ c) m ρ K h' ks s h1 h2 (fun j => lv_load false j) _ rfl q hq) $$ [HK HO]
  · isplitr; · iexact HP
    isplitl [HK]; · iexact HK
    iexact HO
  iintro ⟨HK, HO⟩
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR
theorem st_headK {α : Type} {Q : α → sProp 𝕄} (h' : Fin 8) (h1 : h'.val < kw := by decide) (h2 : ks ≤ h'.val + 3 := by decide)
    {hl : kbM.view.LoadsAt (slotR (KProof.sl (fr h'))).toLoadRect}
    {k : Vec F S1x4096x128 .f32 → Prog (TpuEff nD τ sig (Elt F) Λ₀ .tc) α} (h : St m ρ K c ks kw vs vw s so sl r a b ⊢ W c (k (headOf (ka m ρ c) h')) Q) :
    St m ρ K c ks kw vs vw s so sl r a b ⊢ W c (.op (.load kbM (slotR (KProof.sl (fr h'))).toLoadRect hl) k) Q := by
  unfold St
  iintro ⟨#HP, HG, HK, HV, HO, HW, HX, HR⟩
  iapply (wp_headLoad kM kbM (lS false) c (ka m ρ c) h' ks kw h1 h2 _ rfl) $$ [HK]
  · iexact HK
  iintro HK
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

theorem st_fetchV {α : Type} {Q : α → sProp 𝕄} (h' : Fin 8) (hks : vs = h'.val := by rfl) (hkw : h'.val < vw + 3 := by decide) (hk : vw ≤ h'.val := by decide)
    {q : DmaSem sig} (hq : q = lS true (KProof.sl (fr h')) := by decide)
    {hsrc : (srcM vM h').view.WordExact} {hdst : (dstM vbM (KProof.sl (fr h'))).view.WordExact} {hsem : DmaTarget.Typed (nD := nD) (τ := τ) .hbm (.dma q) (.here (p := .tc) (dstM vbM (KProof.sl (fr h'))))}
    {k : PUnit → Prog (TpuEff nD τ sig (Elt F) Λ₀ .tc) α} (h : St m ρ K c ks kw (h'.val + 1) vw s so sl r a b ⊢ W c (k ⟨⟩) Q) :
    St m ρ K c ks kw vs vw s so sl r a b ⊢ W c (.op (.enqueueDma (srcM vM h') (.here (dstM vbM (KProof.sl (fr h')))) (.dma q) hsrc hdst hsem) k) Q := by
  subst hks
  unfold St
  iintro ⟨#HP, HG, HK, HV, HO, HW, HX, HR⟩
  iapply (wp_fetch vM vbM (lS true) c (va m ρ c) h' vw hkw hk _ rfl q hq) $$ [HV]
  · iexact HV
  iintro HV
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR
theorem st_fetchedV {α : Type} {Q : α → sProp 𝕄} (h' : Fin 8) (hkw : vw = h'.val := by rfl) (h1 : h'.val < vs := by decide) (h2 : vs ≤ h'.val + 3 := by decide)
    {q : DmaSem sig} (hq : q = lS true (KProof.sl (fr h')) := by decide)
    {sp : Space} {s' : Shape} {e' : EltTy} {srcw : Memref sig .tc sp s' e'}
    {hsrc : srcw.view.WordExact} {hdst : (dstM vbM (KProof.sl (fr h'))).view.WordExact}
    {k : PUnit → Prog (TpuEff nD τ sig (Elt F) Λ₀ .tc) α} (h : St m ρ K c ks kw vs (h'.val + 1) s so sl r a b ⊢ W c (k ⟨⟩) Q) :
    St m ρ K c ks kw vs vw s so sl r a b ⊢ W c (.op (.waitDma2 q srcw (dstM vbM (KProof.sl (fr h'))) hsrc hdst) k) Q := by
  subst hkw
  unfold St
  iintro ⟨#HP, HG, HK, HV, HO, HW, HX, HR⟩
  iapply (wp_fetched vM vbM (lS true) c (va m ρ c) m ρ K h' vs s h1 h2 (fun j => lv_load true j) _ rfl q hq) $$ [HV HO]
  · isplitr; · iexact HP
    isplitl [HV]; · iexact HV
    iexact HO
  iintro ⟨HV, HO⟩
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR
theorem st_headV {α : Type} {Q : α → sProp 𝕄} (h' : Fin 8) (h1 : h'.val < vw := by decide) (h2 : vs ≤ h'.val + 3 := by decide)
    {hl : vbM.view.LoadsAt (slotR (KProof.sl (fr h'))).toLoadRect}
    {k : Vec F S1x4096x128 .f32 → Prog (TpuEff nD τ sig (Elt F) Λ₀ .tc) α} (h : St m ρ K c ks kw vs vw s so sl r a b ⊢ W c (k (headOf (va m ρ c) h')) Q) :
    St m ρ K c ks kw vs vw s so sl r a b ⊢ W c (.op (.load vbM (slotR (KProof.sl (fr h'))).toLoadRect hl) k) Q := by
  unfold St
  iintro ⟨#HP, HG, HK, HV, HO, HW, HX, HR⟩
  iapply (wp_headLoad vM vbM (lS true) c (va m ρ c) h' vs vw h1 h2 _ rfl) $$ [HV]
  · iexact HV
  iintro HV
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

/-! ## Storing -/

theorem st_preO {α : Type} {Q : α → sProp 𝕄} (h' : Fin 8) (hr : r ≤ (pO h').val := by decide) {hl : ocM.view.LoadsAt (oR 0 h').toLoadRect}
    {k : Vec F S1x1x256x128 .bf16 → Prog (TpuEff nD τ sig (Elt F) Λ₀ .tc) α} (h : ∀ v, St m ρ K c ks kw vs vw s so sl r a b ⊢ W c (k v) Q) :
    St m ρ K c ks kw vs vw s so sl r a b ⊢ W c (.op (.load ocM (oR 0 h').toLoadRect hl) k) Q := by
  unfold St
  iintro ⟨#HP, HG, HK, HV, HO, HW, HX, HR⟩
  iapply (wp_preO m ρ c h' so sl r hr) $$ [HW]
  · iexact HW
  iintro HW %v
  iapply h v
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR
theorem st_storeO {α : Type} {Q : α → sProp 𝕄} (h' : Fin 8) {w : Vec F S1x1x256x128 .bf16} (hw : w = oh m ρ c h') (hc : so = h'.val := by rfl) (hr : r ≤ (pO h').val := by decide)
    {hx : (ocM.access (oR 0 h')).Stores Finset.univ} {hm : (Finset.univ : Finset (oR 0 h').shape.Idx) = Finset.univ ∨ ∀ a, (oR 0 h').stride a = 1}
    {k : PUnit → Prog (TpuEff nD τ sig (Elt F) Λ₀ .tc) α} (h : St m ρ K c ks kw vs vw s (h'.val + 1) sl r a b ⊢ W c (k ⟨⟩) Q) :
    St m ρ K c ks kw vs vw s so sl r a b ⊢ W c (.op (.store ocM (oR 0 h') w Finset.univ hx hm) k) Q := by
  subst hc
  unfold St
  iintro ⟨#HP, HG, HK, HV, HO, HW, HX, HR⟩
  iapply (wp_storeO m ρ c h' sl r _ rfl hr hw) $$ [HW]
  · iexact HW
  iintro HW
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

theorem st_preL {α : Type} {Q : α → sProp 𝕄} (h' : Fin 8) (hr : r ≤ (pL h').val := by decide) {hl : lcM.view.LoadsAt (lR h').toLoadRect}
    {k : Vec F S1x1x256 .f32 → Prog (TpuEff nD τ sig (Elt F) Λ₀ .tc) α} (h : ∀ v, St m ρ K c ks kw vs vw s so sl r a b ⊢ W c (k v) Q) :
    St m ρ K c ks kw vs vw s so sl r a b ⊢ W c (.op (.load lcM (lR h').toLoadRect hl) k) Q := by
  unfold St
  iintro ⟨#HP, HG, HK, HV, HO, HW, HX, HR⟩
  iapply (wp_preL m ρ c h' so sl r hr) $$ [HW]
  · iexact HW
  iintro HW %v
  iapply h v
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR
theorem st_storeL {α : Type} {Q : α → sProp 𝕄} (h' : Fin 8) {w : Vec F S1x1x256 .f32} (hw : w = lh m ρ c h') (hc : sl = h'.val := by rfl) (hr : r ≤ (pL h').val := by decide)
    {hx : (lcM.access (lR h')).Stores Finset.univ} {hm : (Finset.univ : Finset (lR h').shape.Idx) = Finset.univ ∨ ∀ a, (lR h').stride a = 1}
    {k : PUnit → Prog (TpuEff nD τ sig (Elt F) Λ₀ .tc) α} (h : St m ρ K c ks kw vs vw s so (h'.val + 1) r a b ⊢ W c (k ⟨⟩) Q) :
    St m ρ K c ks kw vs vw s so sl r a b ⊢ W c (.op (.store lcM (lR h') w Finset.univ hx hm) k) Q := by
  subst hc
  unfold St
  iintro ⟨#HP, HG, HK, HV, HO, HW, HX, HR⟩
  iapply (wp_storeL m ρ c h' so r _ rfl hr hw) $$ [HW]
  · iexact HW
  iintro HW
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

/-- Piece `p` is complete. -/
theorem st_ready (p : Fin 7) (hp : r = p.val := by rfl) (hs : s ≤ 3 * p.val := by decide) (ha : a ≤ s := by decide)
    (hso : isL p ∨ lo p + cnt p ≤ so := by decide) (hsl : ¬ isL p ∨ lo p + cnt p ≤ sl := by decide) {Z : sProp 𝕄}
    (h : St m ρ K c ks kw vs vw s so sl (p.val + 1) a b ⊢ Z) : St m ρ K c ks kw vs vw s so sl r a b ⊢ Z := by
  subst hp
  refine BIBase.Entails.trans ?_ h
  unfold St
  iintro ⟨#HP, HG, HK, HV, HO, HW, HX, HR⟩
  ihave H := (own_ready m ρ c p so sl s a hs ha hso hsl) $$ [HW HX]
  · isplitl [HW] <;> iassumption
  icases H with ⟨HW, HX⟩
  isplitr; · iexact HP
  isplitl [HG]; · iexact HG
  isplitl [HK]; · iexact HK
  isplitl [HV]; · iexact HV
  isplitl [HO]; · iexact HO
  isplitl [HW]; · iexact HW
  isplitl [HX]; · iexact HX
  iexact HR

/-! ## The transfers -/

theorem st_sendO {α : Type} {Q : α → sProp 𝕄} (n : Fin 21) {n' : Dev nD} (hn' : n' = nx c (dd n)) (hs' : s = n.val := by rfl) (ha : a ≤ n.val := by decide) (hr : n.val < 3 * r := by decide)
    (hL : ¬ isL (pp n) := by decide) {s' : Shape} {offs offd sz : Fin 4 → ℕ} {inbs inbd hss hsd hqs hqd}
    (hos : offs = ![0, lo (pp n), 0, 0] := by rfl) (hod : offd = ![(dd n).val + 1, lo (pp n), 0, 0] := by rfl) (hsz : sz = ![1, cnt (pp n), 256, 128] := by rfl)
    {qS qR : DmaSem sig} (hqS : qS = sS n := by decide) (hqR : qR = rS n := by decide) (hN : RefSig.tileCredit s' .bf16 = Np (pp n) := by decide)
    {hsc : ((oSub (s' := s') offd sz inbd hsd hqd) : Memref sig (Dev.tc n' : Thread nD τ).2.kind .vmem s' .bf16).view.ref.isScScratch = false}
    {hsrc : (oSub (s' := s') offs sz inbs hss hqs).view.WordExact} {hdst : (oSub (s' := s') offd sz inbd hsd hqd).view.WordExact}
    {hsem : DmaTarget.Typed .vmem (.dma qR) (.remote (Dev.tc n' : Thread nD τ) (oSub (s' := s') offd sz inbd hsd hqd) (.dma qS) hsc)}
    {k : PUnit → Prog (TpuEff nD τ sig (Elt F) Λ₀ .tc) α} (h : St m ρ K c ks kw vs vw (n.val + 1) so sl r a b ⊢ W c (k ⟨⟩) Q) :
    St m ρ K c ks kw vs vw s so sl r a b ⊢ W c (.op (.enqueueDma (oSub (s' := s') offs sz inbs hss hqs) (.remote (Dev.tc n' : Thread nD τ) (oSub (s' := s') offd sz inbd hsd hqd) (.dma qS) hsc)
      (.dma qR) hsrc hdst hsem) k) Q := by
  subst hs'
  unfold St
  iintro ⟨#HP, HG, HK, HV, HO, HW, HX, HR⟩
  iapply (wp_sendO m ρ K c n (3 * r) a _ rfl ha hr n' hn' hL offs offd sz hos hod hsz qS qR hqS hqR hN) $$ [HX HO]
  · isplitr; · iexact HP
    isplitl [HX]; · iexact HX
    iexact HO
  iintro ⟨HX, HO⟩
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

theorem st_sendL {α : Type} {Q : α → sProp 𝕄} (n : Fin 21) {n' : Dev nD} (hn' : n' = nx c (dd n)) (hs' : s = n.val := by rfl) (ha : a ≤ n.val := by decide) (hr : n.val < 3 * r := by decide)
    (hL : isL (pp n) := by decide) {s' : Shape} {offs offd sz : Fin 3 → ℕ} {inbs inbd hss hsd hqs hqd}
    (hos : offs = ![0, lo (pp n), 0] := by rfl) (hod : offd = ![(dd n).val + 1, lo (pp n), 0] := by rfl) (hsz : sz = ![1, cnt (pp n), 256] := by rfl)
    {qS qR : DmaSem sig} (hqS : qS = sS n := by decide) (hqR : qR = rS n := by decide) (hN : RefSig.tileCredit s' .f32 = Np (pp n) := by decide)
    {hsc : ((lSub (s' := s') offd sz inbd hsd hqd) : Memref sig (Dev.tc n' : Thread nD τ).2.kind .vmem s' .f32).view.ref.isScScratch = false}
    {hsrc : (lSub (s' := s') offs sz inbs hss hqs).view.WordExact} {hdst : (lSub (s' := s') offd sz inbd hsd hqd).view.WordExact}
    {hsem : DmaTarget.Typed .vmem (.dma qR) (.remote (Dev.tc n' : Thread nD τ) (lSub (s' := s') offd sz inbd hsd hqd) (.dma qS) hsc)}
    {k : PUnit → Prog (TpuEff nD τ sig (Elt F) Λ₀ .tc) α} (h : St m ρ K c ks kw vs vw (n.val + 1) so sl r a b ⊢ W c (k ⟨⟩) Q) :
    St m ρ K c ks kw vs vw s so sl r a b ⊢ W c (.op (.enqueueDma (lSub (s' := s') offs sz inbs hss hqs) (.remote (Dev.tc n' : Thread nD τ) (lSub (s' := s') offd sz inbd hsd hqd) (.dma qS) hsc)
      (.dma qR) hsrc hdst hsem) k) Q := by
  subst hs'
  unfold St
  iintro ⟨#HP, HG, HK, HV, HO, HW, HX, HR⟩
  iapply (wp_sendL m ρ K c n (3 * r) a _ rfl ha hr n' hn' hL offs offd sz hos hod hsz qS qR hqS hqR hN) $$ [HX HO]
  · isplitr; · iexact HP
    isplitl [HX]; · iexact HX
    iexact HO
  iintro ⟨HX, HO⟩
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

theorem st_waitS {α : Type} {Q : α → sProp 𝕄} (n : Fin 21) (hc : a = n.val := by rfl) (hs : n.val < s := by decide)
    (hl : ∀ k ∈ rem s, 0 < if k.val < 9 then 2 else 3 := by decide) {q : DmaSem sig} (hq : q = sS n := by decide) {sp : Space} {s' s'' : Shape} {e e' : EltTy} {κ : Kind}
    {srcw : Memref sig .tc sp s'' e'} {dstw : Memref sig κ .vmem s' e} (hN : dstw.view.dmaCredit = Np (pp n) := by rfl)
    {hsrc : srcw.view.WordExact} {hdst : dstw.view.WordExact}
    {k : PUnit → Prog (TpuEff nD τ sig (Elt F) Λ₀ .tc) α} (h : St m ρ K c ks kw vs vw s so sl r (n.val + 1) b ⊢ W c (k ⟨⟩) Q) :
    St m ρ K c ks kw vs vw s so sl r a b ⊢ W c (.op (.waitDma2 q srcw dstw hsrc hdst) k) Q := by
  subst hc
  unfold St
  iintro ⟨#HP, HG, HK, HV, HO, HW, HX, HR⟩
  iapply (wp_waitS m ρ K c n (3 * r) s _ rfl hs hl q hq hN) $$ [HX HO]
  · isplitr; · iexact HP
    isplitl [HX]; · iexact HX
    iexact HO
  iintro ⟨HX, HO⟩
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

theorem st_waitR {α : Type} {Q : α → sProp 𝕄} (n : Fin 21) (hc : b = n.val := by rfl)
    (hl : ∀ k ∈ rem s, (if n.val < 9 then 2 else 3) < if k.val < 9 then 2 else 3 := by decide) {q : DmaSem sig} (hq : q = rS n := by decide) {sp : Space} {s' s'' : Shape} {e e' : EltTy} {κ : Kind}
    {srcw : Memref sig .tc sp s'' e'} {dstw : Memref sig κ .vmem s' e} (hN : dstw.view.dmaCredit = Np (pp n) := by rfl)
    {hsrc : srcw.view.WordExact} {hdst : dstw.view.WordExact}
    {k : PUnit → Prog (TpuEff nD τ sig (Elt F) Λ₀ .tc) α} (h : St m ρ K c ks kw vs vw s so sl r a (n.val + 1) ⊢ W c (k ⟨⟩) Q) :
    St m ρ K c ks kw vs vw s so sl r a b ⊢ W c (.op (.waitDma2 q srcw dstw hsrc hdst) k) Q := by
  subst hc
  unfold St
  iintro ⟨#HP, HG, HK, HV, HO, HW, HX, HR⟩
  iapply (wp_waitR m ρ K c n s _ rfl hl q hq hN) $$ [HR HO]
  · isplitr; · iexact HP
    isplitl [HR]; · iexact HR
    iexact HO
  iintro ⟨HR, HO⟩
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

/-! ## The merge's loads -/

theorem st_mergeO {α : Type} {Q : α → sProp 𝕄} (s' : Fin 4) (h' : Fin 8) (ha : 3 * (pO h').val < a := by decide) (hb : 3 * (pO h').val + 2 < b := by decide)
    {hl : ocM.view.LoadsAt (oR s' h').toLoadRect}
    {k : Vec F S1x1x256x128 .bf16 → Prog (TpuEff nD τ sig (Elt F) Λ₀ .tc) α} (h : St m ρ K c ks kw vs vw s so sl r a b ⊢ W c (k (ocM.view.readAt (Elt F) (oR s' h').toLoadRect (OC m ρ c))) Q) :
    St m ρ K c ks kw vs vw s so sl r a b ⊢ W c (.op (.load ocM (oR s' h').toLoadRect hl) k) Q := by
  unfold St
  iintro ⟨#HP, HG, HK, HV, HO, HW, HX, HR⟩
  iapply (wp_mergeO m ρ c s' h' (3 * r) s a b ha hb) $$ [HX HR]
  · isplitl [HX]; · iexact HX
    iexact HR
  iintro ⟨HX, HR⟩
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

theorem st_mergeL {α : Type} {Q : α → sProp 𝕄} (s' : Fin 4) (h' : Fin 2) (ha : 3 * (hL h').val < a := by decide) (hb : 3 * (hL h').val + 2 < b := by decide)
    {hl : lcM.view.LoadsAt (lQ s' h').toLoadRect}
    {k : Vec F S1x4x256 .f32 → Prog (TpuEff nD τ sig (Elt F) Λ₀ .tc) α} (h : St m ρ K c ks kw vs vw s so sl r a b ⊢ W c (k (lcM.view.readAt (Elt F) (lQ s' h').toLoadRect (LC m ρ c))) Q) :
    St m ρ K c ks kw vs vw s so sl r a b ⊢ W c (.op (.load lcM (lQ s' h').toLoadRect hl) k) Q := by
  unfold St
  iintro ⟨#HP, HG, HK, HV, HO, HW, HX, HR⟩
  iapply (wp_mergeL m ρ c s' h' (3 * r) s a b ha hb) $$ [HX HR]
  · isplitl [HX]; · iexact HX
    iexact HR
  iintro ⟨HX, HR⟩
  iapply h
  unfold St
  isplitr; · iexact HP
  isplitl [HG]; · iexact HG
  isplitl [HK]; · iexact HK
  isplitl [HV]; · iexact HV
  isplitl [HO]; · iexact HO
  isplitl [HW]; · iexact HW
  isplitl [HX]; · iexact HX
  iexact HR

/-- A load of the staged output projection. -/
theorem st_wo {α : Type} {Q : α → sProp 𝕄} {R : Rect S1024x1024} {hl : woM.view.LoadsAt R.toLoadRect} {k : Vec F R.shape .f32 → Prog (TpuEff nD τ sig (Elt F) Λ₀ .tc) α}
    (h : St m ρ K c ks kw vs vw s so sl r a b ⊢ W c (k (woM.view.readAt (Elt F) R.toLoadRect (wov m ρ c))) Q) :
    St m ρ K c ks kw vs vw s so sl r a b ⊢ W c (.op (.load woM R.toLoadRect hl) k) Q := by
  unfold St SG
  iintro ⟨#HP, ⟨HG1, HG2, HG3, HG4⟩, HK, HV, HO, HW, HX, HR⟩
  iapply (wp_load 𝒱₀ (c : Thread nD τ) none Set.univ (m := woM) (Finset.subset_univ _)) $$ HG3; iintro HG3
  iapply h
  unfold St SG
  isplitr; · iexact HP
  isplitl [HG1 HG2 HG3 HG4]
  · isplitl [HG1]; · iexact HG1
    isplitl [HG2]; · iexact HG2
    isplitl [HG3]; · iexact HG3
    iexact HG4
  isplitl [HK]; · iexact HK
  isplitl [HV]; · iexact HV
  isplitl [HO]; · iexact HO
  isplitl [HW]; · iexact HW
  isplitl [HX]; · iexact HX
  iexact HR

end Cert.KProof

end
-- ==== Proof.Parts.lean ====
/- The parts of the body, each from the state before it to the state after it. -/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- A part of the body at the device's memrefs and semaphores. -/
abbrev app {β : Sort _} (f : (a0 : Memref sig .tc .vmem S256x1024 .f32) → a0.IsWhole → (a1 : Memref sig .tc .vmem S1024x1024 .f32) → a1.IsWhole
    → (a2 : Memref sig .tc .vmem S1024x1024 .f32) → a2.IsWhole → (a3 : Memref sig .tc .hbm S4096x8x128 .f32) → a3.IsWhole
    → (a4 : Memref sig .tc .hbm S4096x8x128 .f32) → a4.IsWhole → (a5 : Memref sig .tc .vmem S256x1024 .f32) → a5.IsWhole
    → (a6 : Memref sig .tc .vmem S4x8x256x128 .bf16) → a6.IsWhole → (a7 : Memref sig .tc .vmem S4x8x256 .f32) → a7.IsWhole
    → (a8 : Memref sig .tc .vmem S3x4096x128 .f32) → a8.IsWhole → (a9 : Memref sig .tc .vmem S3x4096x128 .f32) → a9.IsWhole
    → DmaSems sig S3 → DmaSems sig S3 → DmaSems sig S3x5 → DmaSems sig S3x5 → DmaSems sig S3x2 → DmaSems sig S3x2 → β) : β :=
  f xM (Memref.isWhole_whole _) wqM (Memref.isWhole_whole _) woM (Memref.isWhole_whole _) kM (Memref.isWhole_whole _) vM (Memref.isWhole_whole _)
    outM (Memref.isWhole_whole _) ocM (Memref.isWhole_whole _) lcM (Memref.isWhole_whole _) kbM (Memref.isWhole_whole _) vbM (Memref.isWhole_whole _)
    cc0_scratch4 cc0_scratch5 cc0_scratch6 cc0_scratch7 cc0_scratch8 cc0_scratch9

variable {m : (ℓ : Loc nD τ sig) → Buf (Elt F) ℓ} {ρ : Dev nD → PrngReg} {K : Dev nD × CI → ℕ}

/-! What the merge loads: a head of a slot of the outputs, half a slot of the log-sums; and 128 rows of the output projection. -/
def mo (m : (ℓ : Loc nD τ sig) → Buf (Elt F) ℓ) (ρ : Dev nD → PrngReg) (c : Dev nD) (s : Fin 4) (h : Fin 8) : Vec F S1x1x256x128 .bf16 :=
  ocM.view.readAt (Elt F) (oR s h).toLoadRect (OC m ρ c)
def ml (m : (ℓ : Loc nD τ sig) → Buf (Elt F) ℓ) (ρ : Dev nD → PrngReg) (c : Dev nD) (s : Fin 4) (b : Fin 2) : Vec F S1x4x256 .f32 :=
  lcM.view.readAt (Elt F) (lQ s b).toLoadRect (LC m ρ c)
def wr (m : (ℓ : Loc nD τ sig) → Buf (Elt F) ℓ) (ρ : Dev nD → PrngReg) (c : Dev nD) (i : Fin 8) : Vec F S128x1024 .f32 :=
  woM.view.readAt (Elt F) (Rect.unit (s := S1024x1024) ![128 * i.val, 0] S128x1024.size (by revert i; decide)).toLoadRect (wov m ρ c)

theorem part3 {c : Dev nD} {Q : _ → sProp 𝕄}
    (h : St m ρ K c 3 1 3 1 0 0 0 0 0 0 ⊢ Q (k0_pay6 (kh m ρ c 0))) :
    St m ρ K c 2 0 2 0 0 0 0 0 0 0 ⊢ W c (app (k0_part3 (F := F))) Q := by
  simp only [app, k0_part3_eq_skeleton]; unfold k0_part3_skel
  simp only [Prog.lift, Prog.bind_op, Prog.bind_ret, Prog.pure_eq_ret]
  refine st_fetchK 2 (h := ?_)
  refine st_fetchV 2 (h := ?_)
  refine st_fetchedK 0 (h := ?_)
  refine st_fetchedV 0 (h := ?_)
  refine st_headK 0 (h := ?_)
  exact st_ret h

theorem part4 {c : Dev nD} {Q : _ → sProp 𝕄} {v49 v50 v51 v79}
    (ho : k0_pay9 v49 v50 v51 v79 (vh m ρ c 0) = oh m ρ c 0) (hl : k0_pay10 v49 v50 v79 = lh m ρ c 0)
    (h : St m ρ K c 4 1 3 1 0 1 1 0 0 0 ⊢ Q ⟨k0_pay11 (F := F), k0_pay12 (F := F)⟩) :
    St m ρ K c 3 1 3 1 0 0 0 0 0 0 ⊢ W c (app (k0_part4 (F := F)) v49 v50 v51 v79) Q := by
  simp only [app, k0_part4_eq_skeleton]; unfold k0_part4_skel
  simp only [Prog.lift, Prog.bind_op, Prog.bind_ret, Prog.pure_eq_ret]
  refine st_headV 0 (h := ?_)
  refine st_preO 0 (h := fun _ => ?_)
  refine st_storeO 0 ho (h := ?_)
  refine st_preL 0 (h := fun _ => ?_)
  refine st_storeL 0 hl (h := ?_)
  refine st_fetchK 3 (h := ?_)
  exact st_ret h

theorem part5 {c : Dev nD} {Q : _ → sProp 𝕄} {v49 v103}
    (h : St m ρ K c 4 2 4 2 0 1 1 0 0 0 ⊢ Q ⟨k0_pay13 (vh m ρ c 1), k0_pay15 v49 (kh m ρ c 1), k0_pay16 v49 v103 (kh m ρ c 1), (constant S256x128 .f32 0x00000000#32)⟩) :
    St m ρ K c 4 1 3 1 0 1 1 0 0 0 ⊢ W c (app (k0_part5 (F := F)) v49 v103) Q := by
  simp only [app, k0_part5_eq_skeleton]; unfold k0_part5_skel
  simp only [Prog.lift, Prog.bind_op, Prog.bind_ret, Prog.pure_eq_ret]
  refine st_fetchV 3 (h := ?_)
  refine st_fetchedK 1 (h := ?_)
  refine st_fetchedV 1 (h := ?_)
  refine st_headK 1 (h := ?_)
  refine st_headV 1 (h := ?_)
  exact st_ret h

theorem part6 {c : Dev nD} {Q : _ → sProp 𝕄} {v2 v104 v134 v138 v141 cst_129}
    (ho : k0_pay17 v104 v134 v138 v141 cst_129 = oh m ρ c 1) (hl : k0_pay18 v141 = lh m ρ c 1)
    (h : ∀ v158 v170, St m ρ K c 4 2 4 2 1 2 2 1 0 0 ⊢ Q ⟨k0_pay19 (F := F), k0_pay20 (F := F), v158, v170⟩) :
    St m ρ K c 4 2 4 2 0 1 1 0 0 0 ⊢ W c (app (k0_part6 (F := F)) c v2 v104 v134 v138 v141 cst_129) Q := by
  simp only [app, k0_part6_eq_skeleton]; unfold k0_part6_skel
  simp only [Prog.lift, Prog.bind_op, Prog.bind_ret, Prog.pure_eq_ret]
  refine st_preO 1 (h := fun _ => ?_)
  refine st_storeO 1 ho (h := ?_)
  refine st_preL 1 (h := fun _ => ?_)
  refine st_storeL 1 hl (h := ?_)
  refine st_ready 0 (h := ?_)
  refine st_sendO 0 (Fin.ext (k0_dev4_eq c)) (h := ?_)
  exact st_ret (h _ _)

theorem part7 {c : Dev nD} {Q : _ → sProp 𝕄} {v2 v170}
    (h : ∀ v182, St m ρ K c 4 2 4 2 3 2 2 1 0 0 ⊢ Q v182) :
    St m ρ K c 4 2 4 2 1 2 2 1 0 0 ⊢ W c (app (k0_part7 (F := F)) c v2 v170) Q := by
  simp only [app, k0_part7_eq_skeleton]; unfold k0_part7_skel
  simp only [Prog.lift, Prog.bind_op, Prog.bind_ret, Prog.pure_eq_ret]
  refine st_sendO 1 (Fin.ext (k0_dev5_eq c)) (h := ?_)
  refine st_sendO 2 (Fin.ext (k0_dev6_eq c)) (h := ?_)
  exact st_ret (h _)

theorem part8 {c : Dev nD} {Q : _ → sProp 𝕄}
    (h : St m ρ K c 5 3 5 3 3 2 2 1 0 0 ⊢ Q ⟨k0_pay21 (kh m ρ c 2), k0_pay22 (vh m ρ c 2)⟩) :
    St m ρ K c 4 2 4 2 3 2 2 1 0 0 ⊢ W c (app (k0_part8 (F := F))) Q := by
  simp only [app, k0_part8_eq_skeleton]; unfold k0_part8_skel
  simp only [Prog.lift, Prog.bind_op, Prog.bind_ret, Prog.pure_eq_ret]
  refine st_fetchK 4 (h := ?_)
  refine st_fetchV 4 (h := ?_)
  refine st_fetchedK 2 (h := ?_)
  refine st_fetchedV 2 (h := ?_)
  refine st_headK 2 (h := ?_)
  refine st_headV 2 (h := ?_)
  exact st_ret h

theorem part9 {c : Dev nD} {Q : _ → sProp 𝕄} {v49 v155 v156 v219 v221}
    (ho : k0_pay25 v49 v155 v156 v219 v221 = oh m ρ c 2) (hl : k0_pay26 v49 v155 v219 = lh m ρ c 2)
    (h : St m ρ K c 6 3 5 3 3 3 3 1 0 0 ⊢ Q ⟨k0_pay27 (F := F), k0_pay28 (F := F)⟩) :
    St m ρ K c 5 3 5 3 3 2 2 1 0 0 ⊢ W c (app (k0_part9 (F := F)) v49 v155 v156 v219 v221) Q := by
  simp only [app, k0_part9_eq_skeleton]; unfold k0_part9_skel
  simp only [Prog.lift, Prog.bind_op, Prog.bind_ret, Prog.pure_eq_ret]
  refine st_preO 2 (h := fun _ => ?_)
  refine st_storeO 2 ho (h := ?_)
  refine st_preL 2 (h := fun _ => ?_)
  refine st_storeL 2 hl (h := ?_)
  refine st_fetchK 5 (h := ?_)
  exact st_ret h

theorem part10 {c : Dev nD} {Q : _ → sProp 𝕄} {v49 v243 v244}
    (h : St m ρ K c 6 4 6 4 3 3 3 1 0 0 ⊢ Q ⟨k0_pay30 v49 v243 (kh m ρ c 3), k0_pay31 v49 v243 v244 (kh m ρ c 3) (vh m ρ c 3)⟩) :
    St m ρ K c 6 3 5 3 3 3 3 1 0 0 ⊢ W c (app (k0_part10 (F := F)) v49 v243 v244) Q := by
  simp only [app, k0_part10_eq_skeleton]; unfold k0_part10_skel
  simp only [Prog.lift, Prog.bind_op, Prog.bind_ret, Prog.pure_eq_ret]
  refine st_fetchV 5 (h := ?_)
  refine st_fetchedK 3 (h := ?_)
  refine st_fetchedV 3 (h := ?_)
  refine st_headK 3 (h := ?_)
  refine st_headV 3 (h := ?_)
  exact st_ret h

theorem part11 {c : Dev nD} {Q : _ → sProp 𝕄} {v2 v281 v286}
    (ho : k0_pay32 v286 = oh m ρ c 3) (hl : k0_pay33 v281 = lh m ρ c 3)
    (h : ∀ v298 v310, St m ρ K c 6 4 6 4 4 4 4 2 0 0 ⊢ Q ⟨k0_pay34 (F := F), k0_pay35 (F := F), v298, v310⟩) :
    St m ρ K c 6 4 6 4 3 3 3 1 0 0 ⊢ W c (app (k0_part11 (F := F)) c v2 v281 v286) Q := by
  simp only [app, k0_part11_eq_skeleton]; unfold k0_part11_skel
  simp only [Prog.lift, Prog.bind_op, Prog.bind_ret, Prog.pure_eq_ret]
  refine st_preO 3 (h := fun _ => ?_)
  refine st_storeO 3 ho (h := ?_)
  refine st_preL 3 (h := fun _ => ?_)
  refine st_storeL 3 hl (h := ?_)
  refine st_ready 1 (h := ?_)
  refine st_sendO 3 (Fin.ext (k0_dev7_eq c)) (h := ?_)
  exact st_ret (h _ _)

theorem part12 {c : Dev nD} {Q : _ → sProp 𝕄} {v2 v310}
    (h : ∀ v322 v334 v335, St m ρ K c 6 4 6 4 6 4 4 2 0 0 ⊢ Q ⟨v322, v334, v335⟩) :
    St m ρ K c 6 4 6 4 4 4 4 2 0 0 ⊢ W c (app (k0_part12 (F := F)) c v2 v310) Q := by
  simp only [app, k0_part12_eq_skeleton]; unfold k0_part12_skel
  simp only [Prog.lift, Prog.bind_op, Prog.bind_ret, Prog.pure_eq_ret]
  refine st_sendO 4 (Fin.ext (k0_dev8_eq c)) (h := ?_)
  refine st_sendO 5 (Fin.ext (k0_dev9_eq c)) (h := ?_)
  exact st_ret (h _ _ _)

theorem part13 {c : Dev nD} {Q : _ → sProp 𝕄} {v2 v335}
    (h : ∀ v346 v358, St m ρ K c 6 4 6 4 8 4 4 3 0 0 ⊢ Q ⟨v346, v358⟩) :
    St m ρ K c 6 4 6 4 6 4 4 2 0 0 ⊢ W c (app (k0_part13 (F := F)) c v2 v335) Q := by
  simp only [app, k0_part13_eq_skeleton]; unfold k0_part13_skel
  simp only [Prog.lift, Prog.bind_op, Prog.bind_ret, Prog.pure_eq_ret]
  refine st_ready 2 (h := ?_)
  refine st_sendL 6 (Fin.ext (k0_dev10_eq c)) (h := ?_)
  refine st_sendL 7 (Fin.ext (k0_dev11_eq c)) (h := ?_)
  exact st_ret (h _ _)

theorem part14 {c : Dev nD} {Q : _ → sProp 𝕄}
    (h : St m ρ K c 7 5 7 4 9 4 4 3 0 0 ⊢ Q ⟨⟩) :
    St m ρ K c 6 4 6 4 8 4 4 3 0 0 ⊢ W c (app (k0_part14 (F := F)) c) Q := by
  simp only [app, k0_part14_eq_skeleton]; unfold k0_part14_skel
  simp only [Prog.lift, Prog.bind_op, Prog.bind_ret, Prog.pure_eq_ret]
  refine st_sendL 8 (Fin.ext (k0_dev12_eq c)) (h := ?_)
  refine st_fetchK 6 (h := ?_)
  refine st_fetchV 6 (h := ?_)
  refine st_fetchedK 4 (h := ?_)
  exact st_ret h

theorem part15 {c : Dev nD} {Q : _ → sProp 𝕄} {v49 v295 v296}
    (ho : k0_pay38 v49 v295 v296 (kh m ρ c 4) (vh m ρ c 4) = oh m ρ c 4) (hl : k0_pay39 v49 v295 (kh m ρ c 4) = lh m ρ c 4)
    (h : St m ρ K c 7 5 7 5 9 5 5 3 0 0 ⊢ Q ⟨k0_pay40 (F := F), k0_pay41 (F := F)⟩) :
    St m ρ K c 7 5 7 4 9 4 4 3 0 0 ⊢ W c (app (k0_part15 (F := F)) v49 v295 v296) Q := by
  simp only [app, k0_part15_eq_skeleton]; unfold k0_part15_skel
  simp only [Prog.lift, Prog.bind_op, Prog.bind_ret, Prog.pure_eq_ret]
  refine st_fetchedV 4 (h := ?_)
  refine st_headK 4 (h := ?_)
  refine st_headV 4 (h := ?_)
  refine st_preO 4 (h := fun _ => ?_)
  refine st_storeO 4 ho (h := ?_)
  refine st_preL 4 (h := fun _ => ?_)
  refine st_storeL 4 hl (h := ?_)
  exact st_ret h

theorem part16 {c : Dev nD} {Q : _ → sProp 𝕄}
    (h : St m ρ K c 8 6 8 6 9 5 5 3 0 0 ⊢ Q ⟨k0_pay42 (kh m ρ c 5), k0_pay43 (vh m ρ c 5)⟩) :
    St m ρ K c 7 5 7 5 9 5 5 3 0 0 ⊢ W c (app (k0_part16 (F := F))) Q := by
  simp only [app, k0_part16_eq_skeleton]; unfold k0_part16_skel
  simp only [Prog.lift, Prog.bind_op, Prog.bind_ret, Prog.pure_eq_ret]
  refine st_fetchK 7 (h := ?_)
  refine st_fetchV 7 (h := ?_)
  refine st_fetchedK 5 (h := ?_)
  refine st_fetchedV 5 (h := ?_)
  refine st_headK 5 (h := ?_)
  refine st_headV 5 (h := ?_)
  exact st_ret h

theorem part17 {c : Dev nD} {Q : _ → sProp 𝕄} {v2 v49 v419 v420 v447 v449}
    (ho : k0_pay46 v49 v419 v420 v447 v449 = oh m ρ c 5) (hl : k0_pay47 v49 v419 v447 = lh m ρ c 5)
    (h : ∀ v474, St m ρ K c 8 6 8 6 9 6 6 3 0 0 ⊢ Q ⟨k0_pay48 (F := F), k0_pay49 (F := F), v474⟩) :
    St m ρ K c 8 6 8 6 9 5 5 3 0 0 ⊢ W c (app (k0_part17 (F := F)) v2 v49 v419 v420 v447 v449) Q := by
  simp only [app, k0_part17_eq_skeleton]; unfold k0_part17_skel
  simp only [Prog.lift, Prog.bind_op, Prog.bind_ret, Prog.pure_eq_ret]
  refine st_preO 5 (h := fun _ => ?_)
  refine st_storeO 5 ho (h := ?_)
  refine st_preL 5 (h := fun _ => ?_)
  refine st_storeL 5 hl (h := ?_)
  exact st_ret (h _)

theorem part18 {c : Dev nD} {Q : _ → sProp 𝕄} {v2}
    (h : ∀ v486 v498, St m ρ K c 8 6 8 6 11 6 6 4 0 0 ⊢ Q ⟨v486, v498⟩) :
    St m ρ K c 8 6 8 6 9 6 6 3 0 0 ⊢ W c (app (k0_part18 (F := F)) c v2) Q := by
  simp only [app, k0_part18_eq_skeleton]; unfold k0_part18_skel
  simp only [Prog.lift, Prog.bind_op, Prog.bind_ret, Prog.pure_eq_ret]
  refine st_ready 3 (h := ?_)
  refine st_sendO 9 (Fin.ext (k0_dev13_eq c)) (h := ?_)
  refine st_sendO 10 (Fin.ext (k0_dev14_eq c)) (h := ?_)
  exact st_ret (h _ _)

theorem part19 {c : Dev nD} {Q : _ → sProp 𝕄} {v158}
    (h : St m ρ K c 8 6 8 6 12 6 6 4 1 1 ⊢ Q ⟨⟩) :
    St m ρ K c 8 6 8 6 11 6 6 4 0 0 ⊢ W c (app (k0_part19 (F := F)) c v158) Q := by
  simp only [app, k0_part19_eq_skeleton]; unfold k0_part19_skel
  simp only [Prog.lift, Prog.bind_op, Prog.bind_ret, Prog.pure_eq_ret]
  refine st_sendO 11 (Fin.ext (k0_dev15_eq c)) (h := ?_)
  refine st_waitS 0 (h := ?_)
  refine st_waitR 0 (h := ?_)
  exact st_ret h

theorem part20 {c : Dev nD} {Q : _ → sProp 𝕄} {v170 v182}
    (h : St m ρ K c 8 6 8 6 12 6 6 4 3 2 ⊢ Q ⟨⟩) :
    St m ρ K c 8 6 8 6 12 6 6 4 1 1 ⊢ W c (app (k0_part20 (F := F)) v170 v182) Q := by
  simp only [app, k0_part20_eq_skeleton]; unfold k0_part20_skel
  simp only [Prog.lift, Prog.bind_op, Prog.bind_ret, Prog.pure_eq_ret]
  refine st_waitS 1 (h := ?_)
  refine st_waitR 1 (h := ?_)
  refine st_waitS 2 (h := ?_)
  exact st_ret h

theorem part21 {c : Dev nD} {Q : _ → sProp 𝕄} {v298}
    (h : St m ρ K c 8 6 8 6 12 6 6 4 4 4 ⊢ Q ⟨⟩) :
    St m ρ K c 8 6 8 6 12 6 6 4 3 2 ⊢ W c (app (k0_part21 (F := F)) v298) Q := by
  simp only [app, k0_part21_eq_skeleton]; unfold k0_part21_skel
  simp only [Prog.lift, Prog.bind_op, Prog.bind_ret, Prog.pure_eq_ret]
  refine st_waitR 2 (h := ?_)
  refine st_waitS 3 (h := ?_)
  refine st_waitR 3 (h := ?_)
  exact st_ret h

theorem part22 {c : Dev nD} {Q : _ → sProp 𝕄} {v310}
    (h : St m ρ K c 8 6 8 6 12 6 6 4 6 5 ⊢ Q ⟨⟩) :
    St m ρ K c 8 6 8 6 12 6 6 4 4 4 ⊢ W c (app (k0_part22 (F := F)) v310) Q := by
  simp only [app, k0_part22_eq_skeleton]; unfold k0_part22_skel
  simp only [Prog.lift, Prog.bind_op, Prog.bind_ret, Prog.pure_eq_ret]
  refine st_waitS 4 (h := ?_)
  refine st_waitR 4 (h := ?_)
  refine st_waitS 5 (h := ?_)
  exact st_ret h

theorem part23 {c : Dev nD} {Q : _ → sProp 𝕄} {v322 v334}
    (h : St m ρ K c 8 6 8 6 12 6 6 4 7 6 ⊢ Q ⟨⟩) :
    St m ρ K c 8 6 8 6 12 6 6 4 6 5 ⊢ W c (app (k0_part23 (F := F)) v322 v334) Q := by
  simp only [app, k0_part23_eq_skeleton]; unfold k0_part23_skel
  simp only [Prog.lift, Prog.bind_op, Prog.bind_ret, Prog.pure_eq_ret]
  refine st_waitR 5 (h := ?_)
  refine st_waitS 6 (h := ?_)
  exact st_ret h

theorem part24 {c : Dev nD} {Q : _ → sProp 𝕄} {v346}
    (h : St m ρ K c 8 6 8 6 12 6 6 4 9 8 ⊢ Q ⟨⟩) :
    St m ρ K c 8 6 8 6 12 6 6 4 7 6 ⊢ W c (app (k0_part24 (F := F)) v346) Q := by
  simp only [app, k0_part24_eq_skeleton]; unfold k0_part24_skel
  simp only [Prog.lift, Prog.bind_op, Prog.bind_ret, Prog.pure_eq_ret]
  refine st_waitR 6 (h := ?_)
  refine st_waitS 7 (h := ?_)
  refine st_waitR 7 (h := ?_)
  refine st_waitS 8 (h := ?_)
  exact st_ret h

theorem part25 {c : Dev nD} {Q : _ → sProp 𝕄} {v358}
    (h : St m ρ K c 8 6 8 6 12 6 6 4 9 9 ⊢ Q ⟨k0_pay55 (ml m ρ c 0 0) (ml m ρ c 1 0) (ml m ρ c 2 0) (ml m ρ c 3 0), k0_pay56 (ml m ρ c 0 0) (ml m ρ c 1 0) (ml m ρ c 2 0) (ml m ρ c 3 0), k0_pay57 (ml m ρ c 0 0) (ml m ρ c 1 0) (ml m ρ c 2 0) (ml m ρ c 3 0), k0_pay58 (ml m ρ c 0 0) (ml m ρ c 1 0) (ml m ρ c 2 0) (ml m ρ c 3 0), k0_pay59 (ml m ρ c 0 0) (ml m ρ c 1 0) (ml m ρ c 2 0) (ml m ρ c 3 0), (iota .tc S4x1024 32 [1] iota_S4x1024_d1_w32), (iota .tc S4x1024 32 [0] iota_S4x1024_d0_w32), 128#32, k0_pay60, k0_pay61⟩) :
    St m ρ K c 8 6 8 6 12 6 6 4 9 8 ⊢ W c (app (k0_part25 (F := F)) v358) Q := by
  simp only [app, k0_part25_eq_skeleton]; unfold k0_part25_skel
  simp only [Prog.lift, Prog.bind_op, Prog.bind_ret, Prog.pure_eq_ret]
  refine st_waitR 8 (h := ?_)
  refine st_mergeL 0 0 (h := ?_)
  refine st_mergeL 1 0 (h := ?_)
  refine st_mergeL 2 0 (h := ?_)
  refine st_mergeL 3 0 (h := ?_)
  exact st_ret h

theorem part26 {c : Dev nD} {Q : _ → sProp 𝕄} {v647 v656 v657 v658 c128_i32 v660 v661}
    (h : St m ρ K c 8 6 8 6 12 6 6 4 9 9 ⊢ Q ⟨k0_pay62 (F := F) v657 v658 c128_i32 v660 v661, k0_pay63 (F := F), k0_pay64 (F := F), k0_pay65 (F := F), k0_pay66 v647 v656 v657 v658 c128_i32 v660 v661, k0_pay67 v647 v656 v657 v658 c128_i32 v660 v661 (mo m ρ c 0 0), (mo m ρ c 0 1)⟩) :
    St m ρ K c 8 6 8 6 12 6 6 4 9 9 ⊢ W c (app (k0_part26 (F := F)) v647 v656 v657 v658 c128_i32 v660 v661) Q := by
  simp only [app, k0_part26_eq_skeleton]; unfold k0_part26_skel
  simp only [Prog.lift, Prog.bind_op, Prog.bind_ret, Prog.pure_eq_ret]
  refine st_mergeO 0 0 (h := ?_)
  refine st_mergeO 0 1 (h := ?_)
  exact st_ret h

theorem part27 {c : Dev nD} {Q : _ → sProp 𝕄} {v649 v656 v688 v690 v691 v692 v695 v701 v702}
    (h : St m ρ K c 8 6 8 6 12 6 6 4 9 9 ⊢ Q ⟨k0_pay68 v692 v695 (mo m ρ c 0 3), k0_pay69 v649 v656 v688, k0_pay70 v649 v656 v688 v701 (mo m ρ c 1 0), k0_pay71 v649 v656 v688 v690 v695 v702 (mo m ρ c 1 1), k0_pay72 v649 v656 v688 v691 v695 (mo m ρ c 0 2) (mo m ρ c 1 2)⟩) :
    St m ρ K c 8 6 8 6 12 6 6 4 9 9 ⊢ W c (app (k0_part27 (F := F)) v649 v656 v688 v690 v691 v692 v695 v701 v702) Q := by
  simp only [app, k0_part27_eq_skeleton]; unfold k0_part27_skel
  simp only [Prog.lift, Prog.bind_op, Prog.bind_ret, Prog.pure_eq_ret]
  refine st_mergeO 0 2 (h := ?_)
  refine st_mergeO 0 3 (h := ?_)
  refine st_mergeO 1 0 (h := ?_)
  refine st_mergeO 1 1 (h := ?_)
  refine st_mergeO 1 2 (h := ?_)
  exact st_ret h

theorem part28 {c : Dev nD} {Q : _ → sProp 𝕄} {v651 v653 v656 v688 v719 v722 v728 v734 v740}
    (h : St m ρ K c 8 6 8 6 12 6 6 4 9 9 ⊢ Q ⟨k0_pay74 v651 v656 v688 v728 (mo m ρ c 2 0), k0_pay75 v651 v656 v688 v734 (mo m ρ c 2 1), k0_pay76 v651 v656 v688 v740 (mo m ρ c 2 2), k0_pay77 v651 v656 v688 v719 v722 (mo m ρ c 1 3) (mo m ρ c 2 3), k0_pay78 v653 v656 v688⟩) :
    St m ρ K c 8 6 8 6 12 6 6 4 9 9 ⊢ W c (app (k0_part28 (F := F)) v651 v653 v656 v688 v719 v722 v728 v734 v740) Q := by
  simp only [app, k0_part28_eq_skeleton]; unfold k0_part28_skel
  simp only [Prog.lift, Prog.bind_op, Prog.bind_ret, Prog.pure_eq_ret]
  refine st_mergeO 1 3 (h := ?_)
  refine st_mergeO 2 0 (h := ?_)
  refine st_mergeO 2 1 (h := ?_)
  refine st_mergeO 2 2 (h := ?_)
  refine st_mergeO 2 3 (h := ?_)
  exact st_ret h

theorem part29 {c : Dev nD} {Q : _ → sProp 𝕄} {v755 v761 v767 v773 v776}
    (h : St m ρ K c 8 6 8 6 12 6 6 4 9 9 ⊢ Q ⟨k0_pay79 v773 v776 (mo m ρ c 3 3), k0_pay80 v755 v761 v776 (mo m ρ c 3 0) (mo m ρ c 3 1) (wr m ρ c 0) (wr m ρ c 1), k0_pay81 v767 v776 (mo m ρ c 3 2)⟩) :
    St m ρ K c 8 6 8 6 12 6 6 4 9 9 ⊢ W c (app (k0_part29 (F := F)) v755 v761 v767 v773 v776) Q := by
  simp only [app, k0_part29_eq_skeleton]; unfold k0_part29_skel
  simp only [Prog.lift, Prog.bind_op, Prog.bind_ret, Prog.pure_eq_ret]
  refine st_mergeO 3 0 (h := ?_)
  refine st_mergeO 3 1 (h := ?_)
  refine st_mergeO 3 2 (h := ?_)
  refine st_mergeO 3 3 (h := ?_)
  refine st_wo ?_
  refine st_wo ?_
  exact st_ret h

theorem part30 {c : Dev nD} {Q : _ → sProp 𝕄} {v49 v52 v800 v813 v814}
    (h : St m ρ K c 8 7 8 7 12 6 6 4 9 9 ⊢ Q ⟨k0_pay82 v52 v800 v813 v814 (wr m ρ c 2) (wr m ρ c 3), k0_pay83 (vh m ρ c 6), k0_pay84 v49 (kh m ρ c 6)⟩) :
    St m ρ K c 8 6 8 6 12 6 6 4 9 9 ⊢ W c (app (k0_part30 (F := F)) v49 v52 v800 v813 v814) Q := by
  simp only [app, k0_part30_eq_skeleton]; unfold k0_part30_skel
  simp only [Prog.lift, Prog.bind_op, Prog.bind_ret, Prog.pure_eq_ret]
  refine st_wo ?_
  refine st_wo ?_
  refine st_fetchedK 6 (h := ?_)
  refine st_fetchedV 6 (h := ?_)
  refine st_headK 6 (h := ?_)
  refine st_headV 6 (h := ?_)
  exact st_ret h

theorem part31 {c : Dev nD} {Q : _ → sProp 𝕄} {v2 v471 v472 v844 v847}
    (ho : k0_pay86 v471 v472 v844 v847 = oh m ρ c 6) (hl : k0_pay87 v471 v847 = lh m ρ c 6)
    (h : ∀ v868, St m ρ K c 8 7 8 7 12 7 7 4 9 9 ⊢ Q ⟨k0_pay88 (F := F), k0_pay89 (F := F), v868⟩) :
    St m ρ K c 8 7 8 7 12 6 6 4 9 9 ⊢ W c (app (k0_part31 (F := F)) v2 v471 v472 v844 v847) Q := by
  simp only [app, k0_part31_eq_skeleton]; unfold k0_part31_skel
  simp only [Prog.lift, Prog.bind_op, Prog.bind_ret, Prog.pure_eq_ret]
  refine st_preO 6 (h := fun _ => ?_)
  refine st_storeO 6 ho (h := ?_)
  refine st_preL 6 (h := fun _ => ?_)
  refine st_storeL 6 hl (h := ?_)
  exact st_ret (h _)

theorem part32 {c : Dev nD} {Q : _ → sProp 𝕄} {v2}
    (h : ∀ v880 v892, St m ρ K c 8 7 8 7 15 7 7 5 9 9 ⊢ Q ⟨v880, v892⟩) :
    St m ρ K c 8 7 8 7 12 7 7 4 9 9 ⊢ W c (app (k0_part32 (F := F)) c v2) Q := by
  simp only [app, k0_part32_eq_skeleton]; unfold k0_part32_skel
  simp only [Prog.lift, Prog.bind_op, Prog.bind_ret, Prog.pure_eq_ret]
  refine st_ready 4 (h := ?_)
  refine st_sendO 12 (Fin.ext (k0_dev16_eq c)) (h := ?_)
  refine st_sendO 13 (Fin.ext (k0_dev17_eq c)) (h := ?_)
  refine st_sendO 14 (Fin.ext (k0_dev18_eq c)) (h := ?_)
  exact st_ret (h _ _)

theorem part33 {c : Dev nD} {Q : _ → sProp 𝕄} {v49 v865 v866}
    (h : St m ρ K c 8 8 8 8 15 7 7 5 9 9 ⊢ Q ⟨k0_pay91 v49 v865 (kh m ρ c 7), k0_pay92 v49 v865 v866 (kh m ρ c 7) (vh m ρ c 7)⟩) :
    St m ρ K c 8 7 8 7 15 7 7 5 9 9 ⊢ W c (app (k0_part33 (F := F)) v49 v865 v866) Q := by
  simp only [app, k0_part33_eq_skeleton]; unfold k0_part33_skel
  simp only [Prog.lift, Prog.bind_op, Prog.bind_ret, Prog.pure_eq_ret]
  refine st_fetchedK 7 (h := ?_)
  refine st_fetchedV 7 (h := ?_)
  refine st_headK 7 (h := ?_)
  refine st_headV 7 (h := ?_)
  refine st_preO 7 (h := fun _ => ?_)
  exact st_ret h

theorem part34 {c : Dev nD} {Q : _ → sProp 𝕄} {v2 v927 v932}
    (ho : k0_pay93 v932 = oh m ρ c 7) (hl : k0_pay94 v927 = lh m ρ c 7)
    (h : ∀ v942 v954, St m ρ K c 8 8 8 8 16 8 8 6 9 9 ⊢ Q ⟨v942, v954⟩) :
    St m ρ K c 8 8 8 8 15 7 7 5 9 9 ⊢ W c (app (k0_part34 (F := F)) c v2 v927 v932) Q := by
  simp only [app, k0_part34_eq_skeleton]; unfold k0_part34_skel
  simp only [Prog.lift, Prog.bind_op, Prog.bind_ret, Prog.pure_eq_ret]
  refine st_storeO 7 ho (h := ?_)
  refine st_preL 7 (h := fun _ => ?_)
  refine st_storeL 7 hl (h := ?_)
  refine st_ready 5 (h := ?_)
  refine st_sendO 15 (Fin.ext (k0_dev19_eq c)) (h := ?_)
  exact st_ret (h _ _)

theorem part35 {c : Dev nD} {Q : _ → sProp 𝕄} {v2}
    (h : ∀ v966 v978, St m ρ K c 8 8 8 8 18 8 8 6 9 9 ⊢ Q ⟨v966, v978⟩) :
    St m ρ K c 8 8 8 8 16 8 8 6 9 9 ⊢ W c (app (k0_part35 (F := F)) c v2) Q := by
  simp only [app, k0_part35_eq_skeleton]; unfold k0_part35_skel
  simp only [Prog.lift, Prog.bind_op, Prog.bind_ret, Prog.pure_eq_ret]
  refine st_sendO 16 (Fin.ext (k0_dev20_eq c)) (h := ?_)
  refine st_sendO 17 (Fin.ext (k0_dev21_eq c)) (h := ?_)
  exact st_ret (h _ _)

theorem part36 {c : Dev nD} {Q : _ → sProp 𝕄} {v2}
    (h : ∀ v990 v1002, St m ρ K c 8 8 8 8 21 8 8 7 9 9 ⊢ Q ⟨v990, v1002⟩) :
    St m ρ K c 8 8 8 8 18 8 8 6 9 9 ⊢ W c (app (k0_part36 (F := F)) c v2) Q := by
  simp only [app, k0_part36_eq_skeleton]; unfold k0_part36_skel
  simp only [Prog.lift, Prog.bind_op, Prog.bind_ret, Prog.pure_eq_ret]
  refine st_ready 6 (h := ?_)
  refine st_sendL 18 (Fin.ext (k0_dev22_eq c)) (h := ?_)
  refine st_sendL 19 (Fin.ext (k0_dev23_eq c)) (h := ?_)
  refine st_sendL 20 (Fin.ext (k0_dev24_eq c)) (h := ?_)
  exact st_ret (h _ _)

theorem part37 {c : Dev nD} {Q : _ → sProp 𝕄} {v474}
    (h : St m ρ K c 8 8 8 8 21 8 8 7 10 10 ⊢ Q ⟨⟩) :
    St m ρ K c 8 8 8 8 21 8 8 7 9 9 ⊢ W c (app (k0_part37 (F := F)) v474) Q := by
  simp only [app, k0_part37_eq_skeleton]; unfold k0_part37_skel
  simp only [Prog.lift, Prog.bind_op, Prog.bind_ret, Prog.pure_eq_ret]
  refine st_waitS 9 (h := ?_)
  refine st_waitR 9 (h := ?_)
  exact st_ret h

theorem part38 {c : Dev nD} {Q : _ → sProp 𝕄} {v486 v498}
    (h : St m ρ K c 8 8 8 8 21 8 8 7 12 11 ⊢ Q ⟨⟩) :
    St m ρ K c 8 8 8 8 21 8 8 7 10 10 ⊢ W c (app (k0_part38 (F := F)) v486 v498) Q := by
  simp only [app, k0_part38_eq_skeleton]; unfold k0_part38_skel
  simp only [Prog.lift, Prog.bind_op, Prog.bind_ret, Prog.pure_eq_ret]
  refine st_waitS 10 (h := ?_)
  refine st_waitR 10 (h := ?_)
  refine st_waitS 11 (h := ?_)
  exact st_ret h

theorem part39 {c : Dev nD} {Q : _ → sProp 𝕄} {v868}
    (h : St m ρ K c 8 8 8 8 21 8 8 7 13 13 ⊢ Q ⟨⟩) :
    St m ρ K c 8 8 8 8 21 8 8 7 12 11 ⊢ W c (app (k0_part39 (F := F)) v868) Q := by
  simp only [app, k0_part39_eq_skeleton]; unfold k0_part39_skel
  simp only [Prog.lift, Prog.bind_op, Prog.bind_ret, Prog.pure_eq_ret]
  refine st_waitR 11 (h := ?_)
  refine st_waitS 12 (h := ?_)
  refine st_waitR 12 (h := ?_)
  exact st_ret h

theorem part40 {c : Dev nD} {Q : _ → sProp 𝕄} {v880}
    (h : St m ρ K c 8 8 8 8 21 8 8 7 15 14 ⊢ Q ⟨⟩) :
    St m ρ K c 8 8 8 8 21 8 8 7 13 13 ⊢ W c (app (k0_part40 (F := F)) v880) Q := by
  simp only [app, k0_part40_eq_skeleton]; unfold k0_part40_skel
  simp only [Prog.lift, Prog.bind_op, Prog.bind_ret, Prog.pure_eq_ret]
  refine st_waitS 13 (h := ?_)
  refine st_waitR 13 (h := ?_)
  refine st_waitS 14 (h := ?_)
  exact st_ret h

theorem part41 {c : Dev nD} {Q : _ → sProp 𝕄} {v892 v942}
    (h : St m ρ K c 8 8 8 8 21 8 8 7 16 16 ⊢ Q ⟨⟩) :
    St m ρ K c 8 8 8 8 21 8 8 7 15 14 ⊢ W c (app (k0_part41 (F := F)) v892 v942) Q := by
  simp only [app, k0_part41_eq_skeleton]; unfold k0_part41_skel
  simp only [Prog.lift, Prog.bind_op, Prog.bind_ret, Prog.pure_eq_ret]
  refine st_waitR 14 (h := ?_)
  refine st_waitS 15 (h := ?_)
  refine st_waitR 15 (h := ?_)
  exact st_ret h

theorem part42 {c : Dev nD} {Q : _ → sProp 𝕄} {v954}
    (h : St m ρ K c 8 8 8 8 21 8 8 7 17 17 ⊢ Q ⟨⟩) :
    St m ρ K c 8 8 8 8 21 8 8 7 16 16 ⊢ W c (app (k0_part42 (F := F)) v954) Q := by
  simp only [app, k0_part42_eq_skeleton]; unfold k0_part42_skel
  simp only [Prog.lift, Prog.bind_op, Prog.bind_ret, Prog.pure_eq_ret]
  refine st_waitS 16 (h := ?_)
  refine st_waitR 16 (h := ?_)
  exact st_ret h

theorem part43 {c : Dev nD} {Q : _ → sProp 𝕄} {v966 v978}
    (h : St m ρ K c 8 8 8 8 21 8 8 7 19 18 ⊢ Q ⟨⟩) :
    St m ρ K c 8 8 8 8 21 8 8 7 17 17 ⊢ W c (app (k0_part43 (F := F)) v966 v978) Q := by
  simp only [app, k0_part43_eq_skeleton]; unfold k0_part43_skel
  simp only [Prog.lift, Prog.bind_op, Prog.bind_ret, Prog.pure_eq_ret]
  refine st_waitS 17 (h := ?_)
  refine st_waitR 17 (h := ?_)
  refine st_waitS 18 (h := ?_)
  exact st_ret h

theorem part44 {c : Dev nD} {Q : _ → sProp 𝕄} {v990}
    (h : St m ρ K c 8 8 8 8 21 8 8 7 20 20 ⊢ Q ⟨⟩) :
    St m ρ K c 8 8 8 8 21 8 8 7 19 18 ⊢ W c (app (k0_part44 (F := F)) v990) Q := by
  simp only [app, k0_part44_eq_skeleton]; unfold k0_part44_skel
  simp only [Prog.lift, Prog.bind_op, Prog.bind_ret, Prog.pure_eq_ret]
  refine st_waitR 18 (h := ?_)
  refine st_waitS 19 (h := ?_)
  refine st_waitR 19 (h := ?_)
  exact st_ret h

theorem part45 {c : Dev nD} {Q : _ → sProp 𝕄} {v1002}
    (h : St m ρ K c 8 8 8 8 21 8 8 7 21 21 ⊢ Q ⟨k0_pay100 (ml m ρ c 0 1) (ml m ρ c 1 1) (ml m ρ c 2 1) (ml m ρ c 3 1), k0_pay101 (ml m ρ c 0 1) (ml m ρ c 1 1) (ml m ρ c 2 1) (ml m ρ c 3 1), k0_pay102 (ml m ρ c 0 1) (ml m ρ c 1 1) (ml m ρ c 2 1) (ml m ρ c 3 1), k0_pay103 (ml m ρ c 0 1) (ml m ρ c 1 1) (ml m ρ c 2 1) (ml m ρ c 3 1), k0_pay104 (ml m ρ c 0 1) (ml m ρ c 1 1) (ml m ρ c 2 1) (ml m ρ c 3 1), (iota .tc S4x1024 32 [1] iota_S4x1024_d1_w32), (iota .tc S4x1024 32 [0] iota_S4x1024_d0_w32), 128#32⟩) :
    St m ρ K c 8 8 8 8 21 8 8 7 20 20 ⊢ W c (app (k0_part45 (F := F)) v1002) Q := by
  simp only [app, k0_part45_eq_skeleton]; unfold k0_part45_skel
  simp only [Prog.lift, Prog.bind_op, Prog.bind_ret, Prog.pure_eq_ret]
  refine st_waitS 20 (h := ?_)
  refine st_waitR 20 (h := ?_)
  refine st_mergeL 0 1 (h := ?_)
  refine st_mergeL 1 1 (h := ?_)
  refine st_mergeL 2 1 (h := ?_)
  refine st_mergeL 3 1 (h := ?_)
  exact st_ret h

theorem part46 {c : Dev nD} {Q : _ → sProp 𝕄} {v1193 v1202 v1203 v1204 c128_i32_1356}
    (h : St m ρ K c 8 8 8 8 21 8 8 7 21 21 ⊢ Q ⟨k0_pay105 (F := F) v1203 v1204 c128_i32_1356, k0_pay106 (F := F), k0_pay107 (F := F), k0_pay108 (F := F), k0_pay109 v1193 v1202 v1203 v1204 c128_i32_1356, k0_pay110 v1193 v1202 v1203 v1204 c128_i32_1356 (mo m ρ c 0 4)⟩) :
    St m ρ K c 8 8 8 8 21 8 8 7 21 21 ⊢ W c (app (k0_part46 (F := F)) v1193 v1202 v1203 v1204 c128_i32_1356) Q := by
  simp only [app, k0_part46_eq_skeleton]; unfold k0_part46_skel
  simp only [Prog.lift, Prog.bind_op, Prog.bind_ret, Prog.pure_eq_ret]
  refine st_mergeO 0 4 (h := ?_)
  exact st_ret h

theorem part47 {c : Dev nD} {Q : _ → sProp 𝕄} {v1195 v1202 v1234 v1236 v1237 v1238 v1241 v1247}
    (h : St m ρ K c 8 8 8 8 21 8 8 7 21 21 ⊢ Q ⟨k0_pay111 v1237 v1241 (mo m ρ c 0 6), k0_pay112 v1238 v1241 (mo m ρ c 0 7), k0_pay113 v1195 v1202 v1234, k0_pay114 v1195 v1202 v1234 v1247 (mo m ρ c 1 4), k0_pay115 v1195 v1202 v1234 v1236 v1241 (mo m ρ c 0 5) (mo m ρ c 1 5), k0_pay116 (mo m ρ c 1 6)⟩) :
    St m ρ K c 8 8 8 8 21 8 8 7 21 21 ⊢ W c (app (k0_part47 (F := F)) v1195 v1202 v1234 v1236 v1237 v1238 v1241 v1247) Q := by
  simp only [app, k0_part47_eq_skeleton]; unfold k0_part47_skel
  simp only [Prog.lift, Prog.bind_op, Prog.bind_ret, Prog.pure_eq_ret]
  refine st_mergeO 0 5 (h := ?_)
  refine st_mergeO 0 6 (h := ?_)
  refine st_mergeO 0 7 (h := ?_)
  refine st_mergeO 1 4 (h := ?_)
  refine st_mergeO 1 5 (h := ?_)
  refine st_mergeO 1 6 (h := ?_)
  exact st_ret h

theorem part48 {c : Dev nD} {Q : _ → sProp 𝕄} {v1197 v1199 v1202 v1234 v1259 v1265 v1268 v1274 v1280 v1283}
    (h : St m ρ K c 8 8 8 8 21 8 8 7 21 21 ⊢ Q ⟨k0_pay118 v1197 v1202 v1234 v1274 (mo m ρ c 2 4), k0_pay119 v1197 v1202 v1234 v1280 (mo m ρ c 2 5), k0_pay120 v1197 v1202 v1234 v1259 v1268 v1283 (mo m ρ c 2 6), k0_pay121 v1197 v1202 v1234 v1265 v1268 (mo m ρ c 1 7) (mo m ρ c 2 7), k0_pay122 v1199 v1202, (constant S256x1024 .f32 0x00000000#32)⟩) :
    St m ρ K c 8 8 8 8 21 8 8 7 21 21 ⊢ W c (app (k0_part48 (F := F)) v1197 v1199 v1202 v1234 v1259 v1265 v1268 v1274 v1280 v1283) Q := by
  simp only [app, k0_part48_eq_skeleton]; unfold k0_part48_skel
  simp only [Prog.lift, Prog.bind_op, Prog.bind_ret, Prog.pure_eq_ret]
  refine st_mergeO 1 7 (h := ?_)
  refine st_mergeO 2 4 (h := ?_)
  refine st_mergeO 2 5 (h := ?_)
  refine st_mergeO 2 6 (h := ?_)
  refine st_mergeO 2 7 (h := ?_)
  exact st_ret h

theorem part49 {c : Dev nD} {Q : _ → sProp 𝕄} {v1234 v1301 v1307 v1313 v1319 v1321 cst_1419}
    (h : St m ρ K c 8 8 8 8 21 8 8 7 21 21 ⊢ Q ⟨k0_pay124 v1234 v1313 v1321 cst_1419 (mo m ρ c 3 6), k0_pay125 v1234 v1319 v1321 cst_1419 (mo m ρ c 3 7), k0_pay126 v1234 v1301 v1321 cst_1419 (mo m ρ c 3 4) (wr m ρ c 4), k0_pay127 v1234 v1307 v1321 cst_1419 (mo m ρ c 3 5) (wr m ρ c 5)⟩) :
    St m ρ K c 8 8 8 8 21 8 8 7 21 21 ⊢ W c (app (k0_part49 (F := F)) v1234 v1301 v1307 v1313 v1319 v1321 cst_1419) Q := by
  simp only [app, k0_part49_eq_skeleton]; unfold k0_part49_skel
  simp only [Prog.lift, Prog.bind_op, Prog.bind_ret, Prog.pure_eq_ret]
  refine st_mergeO 3 4 (h := ?_)
  refine st_mergeO 3 5 (h := ?_)
  refine st_mergeO 3 6 (h := ?_)
  refine st_mergeO 3 7 (h := ?_)
  refine st_wo ?_
  refine st_wo ?_
  exact st_ret h

end Cert.KProof

end
-- ==== Proof.Bar.lean ====
/- The start of a device's body: the first fetches, the exchange of barrier signals with the three other devices, and
   the projection of the queries. -/
module

public import proofs.«01_k».proof.Proof.Parts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-- The staged arguments and result. -/
def SG0 (c : Dev nD) : sProp 𝕄 :=
  iprop((xM.view.loc (c : Thread nD τ) ↦{fullShare} xv m ρ c) ∗ (wqM.view.loc (c : Thread nD τ) ↦{fullShare} wqv m ρ c)
    ∗ (woM.view.loc (c : Thread nD τ) ↦{fullShare} wov m ρ c) ∗ (∃ f, outM.view.loc (c : Thread nD τ) ↦{fullShare} f))

/-- Transfer `n` before the device has the piece it is to fill. -/
def todo0 (c : Dev nD) (n : Fin 21) : sProp 𝕄 :=
  iprop(dutyTok ER (sendCell c n) 0 (0 : Fin 3) ∗ dutyTok ER (recvCell (nx c (dd n)) n) 0 (0 : Fin 3) ∗ atPos ER (sendCell c n) 0 ∅ 0)

/-- What the barrier takes: the tokens of the three signals, the device's slots 1 to 3, its position and its credit. -/
def Bar (c : Dev nD) : sProp 𝕄 :=
  iprop((bigSep Finset.univ fun d : Fin 3 => dutyTok ER (barCell (nx c d)) 0 (op d))
    ∗ (bigSep Finset.univ fun d : Fin 3 => bigSep Finset.univ fun p : Fin 7 => pieceAny (F := F) c p (d.val + 1))
    ∗ atPos ER (barCell c) 0 ∅ 0 ∗ cred (tallyAt (barCell c) () 3))

/-- Before the barrier, `ks` and `vs` fetches started. -/
def Pre (c : Dev nD) (ks vs : ℕ) : sProp 𝕄 :=
  iprop(pers m ρ K ∗ SG0 m ρ c ∗ KK m ρ c ks 0 ∗ VV m ρ c vs 0 ∗ (∃ W, owes (c : Thread nD τ) (O₀ c) W) ∗ OWN m ρ c 0 0 0 ∗ XR m ρ c 0
    ∗ Bar (F := F) c ∗ bigSep Finset.univ (todo0 (F := F) c))

variable {m ρ K} {c : Dev nD}

theorem pre_fetchK {α : Type} {Q : α → sProp 𝕄} {ks vs : ℕ} (h' : Fin 8) (hks : ks = h'.val := by rfl) (hkw : h'.val < 0 + 3 := by decide)
    {q : DmaSem sig} (hq : q = lS false (KProof.sl (fr h')) := by decide)
    {hsrc : (srcM kM h').view.WordExact} {hdst : (dstM kbM (KProof.sl (fr h'))).view.WordExact} {hsem : DmaTarget.Typed (nD := nD) (τ := τ) .hbm (.dma q) (.here (p := .tc) (dstM kbM (KProof.sl (fr h'))))}
    {k : PUnit → Prog (TpuEff nD τ sig (Elt F) Λ₀ .tc) α} (h : Pre m ρ K c (h'.val + 1) vs ⊢ W c (k ⟨⟩) Q) :
    Pre m ρ K c ks vs ⊢ W c (.op (.enqueueDma (srcM kM h') (.here (dstM kbM (KProof.sl (fr h')))) (.dma q) hsrc hdst hsem) k) Q := by
  subst hks
  unfold Pre
  iintro ⟨HP, HG, HK, HV, Hr⟩
  iapply (wp_fetch kM kbM (lS false) c (ka m ρ c) h' 0 hkw (Nat.zero_le _) _ rfl q hq) $$ [HK]
  · iexact HK
  iintro HK
  iapply h
  unfold Pre
  isplitl [HP]; · iexact HP
  isplitl [HG]; · iexact HG
  isplitl [HK]; · iexact HK
  isplitl [HV]; · iexact HV
  iexact Hr

theorem pre_fetchV {α : Type} {Q : α → sProp 𝕄} {ks vs : ℕ} (h' : Fin 8) (hks : vs = h'.val := by rfl) (hkw : h'.val < 0 + 3 := by decide)
    {q : DmaSem sig} (hq : q = lS true (KProof.sl (fr h')) := by decide)
    {hsrc : (srcM vM h').view.WordExact} {hdst : (dstM vbM (KProof.sl (fr h'))).view.WordExact} {hsem : DmaTarget.Typed (nD := nD) (τ := τ) .hbm (.dma q) (.here (p := .tc) (dstM vbM (KProof.sl (fr h'))))}
    {k : PUnit → Prog (TpuEff nD τ sig (Elt F) Λ₀ .tc) α} (h : Pre m ρ K c ks (h'.val + 1) ⊢ W c (k ⟨⟩) Q) :
    Pre m ρ K c ks vs ⊢ W c (.op (.enqueueDma (srcM vM h') (.here (dstM vbM (KProof.sl (fr h')))) (.dma q) hsrc hdst hsem) k) Q := by
  subst hks
  unfold Pre
  iintro ⟨HP, HG, HK, HV, Hr⟩
  iapply (wp_fetch vM vbM (lS true) c (va m ρ c) h' 0 hkw (Nat.zero_le _) _ rfl q hq) $$ [HV]
  · iexact HV
  iintro HV
  iapply h
  unfold Pre
  isplitl [HP]; · iexact HP
  isplitl [HG]; · iexact HG
  isplitl [HK]; · iexact HK
  isplitl [HV]; · iexact HV
  iexact Hr

theorem part1 {Q : _ → sProp 𝕄} (h : ∀ w, Pre m ρ K c 2 1 ⊢ Q ⟨c, w⟩) :
    Pre m ρ K c 0 0 ⊢ W c (app (k0_part1 (F := F))) Q := by
  simp only [app, k0_part1_eq_skeleton]; unfold k0_part1_skel
  simp only [W, Prog.lift, Prog.bind_op, Prog.bind_ret, Prog.pure_eq_ret, wp_deviceId]
  refine pre_fetchK 0 (h := ?_)
  refine pre_fetchV 0 (h := ?_)
  refine pre_fetchK 1 (h := ?_)
  exact st_ret (h _)

/-! ## The barrier -/

/-- The pieces the three other devices hand over are those the twenty-one transfers are to fill. -/
def trE : Fin 21 ≃ Fin 3 × Fin 7 where
  toFun n := (dd n, pp n)
  invFun x := tr x.2 x.1
  left_inv n := by revert n; decide
  right_inv x := Prod.ext (dd_tr x.2 x.1) (pp_tr x.2 x.1)

omit [FloatOps F] [Named F] in
theorem handed (c : Dev nD) : (bigSep Finset.univ fun e : Fin 3 => barPay (F := F) c e)
    = bigSep Finset.univ fun n : Fin 21 => pieceAny (F := F) (nx c (dd n)) (pp n) ((dd n).val + 1) := by
  unfold barPay
  rw [← bigSep_univ_prod (fun x : Fin 3 × Fin 7 => pieceAny (F := F) (nx c x.1) x.2 (x.1.val + 1)), bigSep_univ_equiv trE]
  rfl

theorem XS_start (c : Dev nD) : iprop((bigSep Finset.univ fun e : Fin 3 => barPay (F := F) c e) ∗ bigSep Finset.univ (todo0 (F := F) c)) ⊢ XS m ρ c 0 0 0 := by
  have h (n : Fin 21) : iprop(pieceAny (F := F) (nx c (dd n)) (pp n) ((dd n).val + 1) ∗ todo0 (F := F) c n) ⊢ xs m ρ c 0 0 0 n := by
    have e : xs m ρ c 0 0 0 n = iprop(todoS (F := F) c n ∗ emp) := by
      unfold xs; rw [if_neg (Nat.not_lt_zero _), if_neg (Nat.not_lt_zero _), if_neg (Nat.not_lt_zero _)]
    rw [e]
    unfold todo0 todoS
    iintro ⟨H1, H2, H3, H4⟩
    isplitl
    · isplitl [H2]; · iexact H2
      isplitl [H3]; · iexact H3
      isplitl [H1] <;> iassumption
    · iempintro
  rw [handed, ← bigSep_sep']
  exact bigSep_mono fun n _ => h n

omit [FloatOps F] [Named F] in
theorem fin3 (Φ : Fin 3 → sProp 𝕄) : bigSep Finset.univ Φ = iprop(Φ 0 ∗ Φ 1 ∗ Φ 2) := bigSep_univ_eq_bigSepL [0, 1, 2] (by decide) (by decide) Φ

theorem payload_signal (c : Dev nD) (d : Fin 3) :
    (bigSep Finset.univ fun p : Fin 7 => pieceAny (F := F) c p ((op d).val + 1)) ⊢ (rd (F := F) m ρ).payload (barCell (nx c d)) 0 (op d) := by
  rw [payload_bar]; unfold barPay; rw [nx_op]

/-- One signal: the token and the slot go, the unit owed is gone. -/
theorem wp_sig (d : Fin 3) (O₁ : CellTallies nD τ sig Unit) (dst : Dev nD) (hd : dst = nx c d) (W' : Finset (SemLoc sig × Unit))
    {α : Type} {Q : α → sProp 𝕄} {k : PUnit → Prog (TpuEff nD τ sig (Elt F) Λ₀ .tc) α} :
    iprop(pers m ρ K ∗ owes (c : Thread nD τ) (O₁ + tallyAt (barCell (nx c d)) () 1) W' ∗ dutyTok ER (barCell (nx c d)) 0 (op d)
        ∗ bigSep Finset.univ fun p : Fin 7 => pieceAny (F := F) c p ((op d).val + 1))
      ⊢ iprop((owes (c : Thread nD τ) O₁ W' -∗ W c (k ⟨⟩) Q) -∗ W c (.op (.semSignal (dst : Thread nD τ) barS (1#32).toInt) k) Q) := by
  subst hd
  iintro ⟨#HP, HO, Ht, Hp⟩ Hk
  iapply (Rounds.wp_signal 𝒱₀ ER (rd m ρ) (c : Thread nD τ) none (dst := (nx c d : Thread nD τ)) (κ := K (nx c d, none))
      (d := op d) (by rw [duties_bar]; exact Finset.mem_univ _) ((amount_bar m ρ (nx c d) (op d)).trans (by decide)) () O₁ rfl)
    $$ [HO Ht Hp]
  · isplitr; · iapply (pers_inv m ρ K (nx c d, none)); iexact HP
    isplitl [HO]; · iexact HO
    isplitl [Ht]; · iexact Ht
    isplitl [Hp]; · iapply (payload_signal c d); iexact Hp
    iapply (pers_reached m ρ K (nx c d, none)); iexact HP
  iexact Hk

omit [FloatOps F] [Named F] in
theorem read_xM (inb) (f : Vec F S256x1024 .f32) : xM.view.readAt (Elt F) (Rect.unit ![0, 0] S256x1024.size inb).toLoadRect f = f :=
  Memref.readAt_unit_zero (Elt F) cc0_stg0_0 (by funext a; revert a; decide) inb f
omit [FloatOps F] [Named F] in
theorem read_wqM (inb) (f : Vec F S1024x1024 .f32) : wqM.view.readAt (Elt F) (Rect.unit ![0, 0] S1024x1024.size inb).toLoadRect f = f :=
  Memref.readAt_unit_zero (Elt F) cc0_stg1_0 (by funext a; revert a; decide) inb f

theorem part2 {Q : _ → sProp 𝕄} {v2}
    (h : St m ρ K c 2 0 2 0 0 0 0 0 0 0 ⊢ Q ⟨qb m ρ c, k0_pay3 (F := F), k0_pay4 (F := F), k0_pay5 (F := F)⟩) :
    Pre m ρ K c 2 1 ⊢ W c (app (k0_part2 (F := F)) c v2) Q := by
  simp only [app, k0_part2_eq_skeleton]; unfold k0_part2_skel
  simp only [semSignalWord, semWaitWord, Prog.lift, Prog.bind_op, Prog.bind_ret, Prog.pure_eq_ret]
  refine pre_fetchV 1 (h := ?_)
  unfold Pre Bar SG0
  rw [fin3 (F := F) (fun d : Fin 3 => dutyTok ER (barCell (nx c d)) 0 (op d)), fin3 (F := F) (fun d : Fin 3 => bigSep Finset.univ fun p : Fin 7 => pieceAny (F := F) c p (d.val + 1))]
  iintro ⟨#HP, ⟨Hx, Hq, Hw, Hout⟩, HK, HV, ⟨%W', HO⟩, HW, HR, ⟨⟨Ht0, Ht1, Ht2⟩, ⟨Hp1, Hp2, Hp3⟩, Hat, Hc⟩, HT⟩
  unfold O₀
  iapply (wp_sig (K := K) (m := m) (ρ := ρ) 0 _ _ (Fin.ext (k0_dev1_eq c)) W') $$ [HO Ht0 Hp3]
  · isplitr; · iexact HP
    isplitl [HO]; · iexact HO
    isplitl [Ht0]; · iexact Ht0
    iexact Hp3
  iintro HO
  iapply (wp_sig (K := K) (m := m) (ρ := ρ) 1 _ _ (Fin.ext (k0_dev2_eq c)) W') $$ [HO Ht1 Hp2]
  · isplitr; · iexact HP
    isplitl [HO]; · iexact HO
    isplitl [Ht1]; · iexact Ht1
    iexact Hp2
  iintro HO
  iapply (wp_sig (K := K) (m := m) (ρ := ρ) 2 _ _ (Fin.ext (k0_dev3_eq c)) W') $$ [HO Ht2 Hp1]
  · isplitr; · iexact HP
    isplitl [HO]; · iexact HO
    isplitl [Ht2]; · iexact Ht2
    iexact Hp1
  iintro HO
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hq; iintro Hq
  iapply (Rounds.wp_wait_rest_token 𝒱₀ ER (rd m ρ) (c : Thread nD τ) none (κ := K (c, none))
      (wpE_semWait_eq 𝒱₀ (c : Thread nD τ) none Set.univ) (Set.mem_univ _) () (O := owS c 0) (W := W') (R := 0) (m := 0) (T := ∅)
      (by rw [expect_bar]; decide)) $$ [Hc HO Hat]
  · isplitr; · iapply (pers_inv m ρ K (c, none)); iexact HP
    isplitl [Hc]; · iexact Hc
    isplitl [HO]; · iexact HO
    isplitr
    · iapply (mayWait_owS (F := F) c (.reg barS) 0 (by decide))
      iapply (pers_lev m ρ K); iexact HP
    iexact Hat
  iintro ⟨HO, Hat, -, Hpay⟩
  ihave Hs := (Entails.of_eq (rest_bar m ρ c)) $$ Hpay
  imod (Rounds.cell_close ER (rd m ρ) (Set.mem_univ (K (c, none))) (fun h => h) (R := 0 + 1) (duties_later m ρ (barCell c))) $$ [Hat] with Hz
  · isplitr; · iapply (pers_inv m ρ K (c, none)); iexact HP
    iexact Hat
  ihave HX := (XS_start (m := m) (ρ := ρ) c) $$ [Hs HT]
  · isplitl [Hs] <;> iassumption
  rw [read_xM, read_wqM]
  iapply (st_ret (x := _) (P := St m ρ K c 2 0 2 0 0 0 0 0 0 0) h)
  unfold St SG
  isplitr; · iexact HP
  isplitl [Hx Hq Hw Hout Hz]
  · isplitl [Hx]; · iexact Hx
    isplitl [Hq]; · iexact Hq
    isplitl [Hw]; · iexact Hw
    isplitl [Hout] <;> iassumption
  isplitl [HK]; · iexact HK
  isplitl [HV]; · iexact HV
  isplitl [HO]; · unfold owesE; iexists _; iexact HO
  isplitl [HW]; · iexact HW
  isplitl [HX]; · iexact HX
  iexact HR

end Cert.KProof

end
-- ==== Proof.Body.lean ====
/- The body of the kernel on one device, its parts one after another. -/
module

public import proofs.«01_k».proof.Proof.Bar

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## The values of the merge

`a…` is the first merge, of heads 0 to 3, `b…` the second, of heads 4 to 7: from the four slots' log-sums `L`, their partial
outputs `O` and the four heads' rows of the output projection `w`. The numbers are those of the kernel's operations. -/

section Values
variable (L : Fin 4 → Vec F S1x4x256 .f32) (O : Fin 4 → Fin 4 → Vec F S1x1x256x128 .bf16) (w : Fin 4 → Vec F S128x1024 .f32)

def a647 : FVec F S4x256 .f32 := k0_pay55 (L 0) (L 1) (L 2) (L 3)
def a649 : FVec F S4x256 .f32 := k0_pay56 (L 0) (L 1) (L 2) (L 3)
def a651 : FVec F S4x256 .f32 := k0_pay57 (L 0) (L 1) (L 2) (L 3)
def a653 : FVec F S4x256 .f32 := k0_pay58 (L 0) (L 1) (L 2) (L 3)
def a656 : FVec F S4x256 .f32 := k0_pay59 (L 0) (L 1) (L 2) (L 3)
def a688 : FVec F S4x1024 .bf16 := k0_pay62 (iota .tc S4x1024 32 [1] iota_S4x1024_d1_w32) (iota .tc S4x1024 32 [0] iota_S4x1024_d0_w32) 128#32 k0_pay60 k0_pay61
def a695 : FVec F S256x1024 .f32 := k0_pay66 (a647 L) (a656 L) (iota .tc S4x1024 32 [1] iota_S4x1024_d1_w32) (iota .tc S4x1024 32 [0] iota_S4x1024_d0_w32) 128#32 k0_pay60 k0_pay61
def a701 : FVec F S256x128 .f32 := k0_pay67 (a647 L) (a656 L) (iota .tc S4x1024 32 [1] iota_S4x1024_d1_w32) (iota .tc S4x1024 32 [0] iota_S4x1024_d0_w32) 128#32 k0_pay60 k0_pay61 (O 0 0)
def a719 : FVec F S256x128 .f32 := k0_pay68 k0_pay65 (a695 L) (O 0 3)
def a722 : FVec F S256x1024 .f32 := k0_pay69 (a649 L) (a656 L) a688
def a728 : FVec F S256x128 .f32 := k0_pay70 (a649 L) (a656 L) a688 (a701 L O) (O 1 0)
def a734 : FVec F S256x128 .f32 := k0_pay71 (a649 L) (a656 L) a688 k0_pay63 (a695 L) (O 0 1) (O 1 1)
def a740 : FVec F S256x128 .f32 := k0_pay72 (a649 L) (a656 L) a688 k0_pay64 (a695 L) (O 0 2) (O 1 2)
def a755 : FVec F S256x128 .f32 := k0_pay74 (a651 L) (a656 L) a688 (a728 L O) (O 2 0)
def a761 : FVec F S256x128 .f32 := k0_pay75 (a651 L) (a656 L) a688 (a734 L O) (O 2 1)
def a767 : FVec F S256x128 .f32 := k0_pay76 (a651 L) (a656 L) a688 (a740 L O) (O 2 2)
def a773 : FVec F S256x128 .f32 := k0_pay77 (a651 L) (a656 L) a688 (a719 L O) (a722 L) (O 1 3) (O 2 3)
def a776 : FVec F S256x1024 .f32 := k0_pay78 (a653 L) (a656 L) a688
def a800 : FVec F S256x128 .f32 := k0_pay79 (a773 L O) (a776 L) (O 3 3)
def a813 : FVec F S256x1024 .f32 := k0_pay80 (a755 L O) (a761 L O) (a776 L) (O 3 0) (O 3 1) (w 0) (w 1)
def a814 : FVec F S256x128 .bf16 := k0_pay81 (a767 L O) (a776 L) (O 3 2)
def a826 : FVec F S256x1024 .f32 := k0_pay82 k0_pay5 (a800 L O) (a813 L O w) (a814 L O) (w 2) (w 3)
def b1193 : FVec F S4x256 .f32 := k0_pay100 (L 0) (L 1) (L 2) (L 3)
def b1195 : FVec F S4x256 .f32 := k0_pay101 (L 0) (L 1) (L 2) (L 3)
def b1197 : FVec F S4x256 .f32 := k0_pay102 (L 0) (L 1) (L 2) (L 3)
def b1199 : FVec F S4x256 .f32 := k0_pay103 (L 0) (L 1) (L 2) (L 3)
def b1202 : FVec F S4x256 .f32 := k0_pay104 (L 0) (L 1) (L 2) (L 3)
def b1234 : FVec F S4x1024 .bf16 := k0_pay105 (iota .tc S4x1024 32 [1] iota_S4x1024_d1_w32) (iota .tc S4x1024 32 [0] iota_S4x1024_d0_w32) 128#32
def b1241 : FVec F S256x1024 .f32 := k0_pay109 (b1193 L) (b1202 L) (iota .tc S4x1024 32 [1] iota_S4x1024_d1_w32) (iota .tc S4x1024 32 [0] iota_S4x1024_d0_w32) 128#32
def b1247 : FVec F S256x128 .f32 := k0_pay110 (b1193 L) (b1202 L) (iota .tc S4x1024 32 [1] iota_S4x1024_d1_w32) (iota .tc S4x1024 32 [0] iota_S4x1024_d0_w32) 128#32 (O 0 0)
def b1259 : FVec F S256x128 .f32 := k0_pay111 k0_pay107 (b1241 L) (O 0 2)
def b1265 : FVec F S256x128 .f32 := k0_pay112 k0_pay108 (b1241 L) (O 0 3)
def b1268 : FVec F S256x1024 .f32 := k0_pay113 (b1195 L) (b1202 L) b1234
def b1274 : FVec F S256x128 .f32 := k0_pay114 (b1195 L) (b1202 L) b1234 (b1247 L O) (O 1 0)
def b1280 : FVec F S256x128 .f32 := k0_pay115 (b1195 L) (b1202 L) b1234 k0_pay106 (b1241 L) (O 0 1) (O 1 1)
def b1283 : FVec F S256x128 .f32 := k0_pay116 (O 1 2)
def b1301 : FVec F S256x128 .f32 := k0_pay118 (b1197 L) (b1202 L) b1234 (b1274 L O) (O 2 0)
def b1307 : FVec F S256x128 .f32 := k0_pay119 (b1197 L) (b1202 L) b1234 (b1280 L O) (O 2 1)
def b1313 : FVec F S256x128 .f32 := k0_pay120 (b1197 L) (b1202 L) b1234 (b1259 L O) (b1268 L) (b1283 O) (O 2 2)
def b1319 : FVec F S256x128 .f32 := k0_pay121 (b1197 L) (b1202 L) b1234 (b1265 L O) (b1268 L) (O 1 3) (O 2 3)
def b1321 : FVec F S4x256 .bf16 := k0_pay122 (b1199 L) (b1202 L)
def b1340 : FVec F S256x128 .f32 := k0_pay124 b1234 (b1313 L O) (b1321 L) (constant S256x1024 .f32 0x00000000#32) (O 3 2)
def b1346 : FVec F S256x128 .f32 := k0_pay125 b1234 (b1319 L O) (b1321 L) (constant S256x1024 .f32 0x00000000#32) (O 3 3)
def b1353 : FVec F S256x1024 .f32 := k0_pay126 b1234 (b1301 L O) (b1321 L) (constant S256x1024 .f32 0x00000000#32) (O 3 0) (w 0)
def b1358 : FVec F S256x1024 .f32 := k0_pay127 b1234 (b1307 L O) (b1321 L) (constant S256x1024 .f32 0x00000000#32) (O 3 1) (w 1)
def b1365 : FVec F S256x1024 .f32 := k0_pay128 (b1340 L O) (b1353 L O w) (b1358 L O w) (w 2)
end Values

/-- The kernel's result on device `c`. -/
def outAt (c : Dev nD) : Vec F S256x1024 .f32 :=
  k0_pay1
    (a826 (fun s => ml m ρ c s 0) (fun s i => mo m ρ c s (Fin.castLE (by decide) i)) (fun i => wr m ρ c (Fin.castLE (by decide) i)))
    (b1365 (fun s => ml m ρ c s 1) (fun s i => mo m ρ c s (Fin.natAdd 4 i)) (fun i => wr m ρ c (Fin.natAdd 4 i)))
    (k0_pay129 (b1346 (fun s => ml m ρ c s 1) (fun s i => mo m ρ c s (Fin.natAdd 4 i)))) (wr m ρ c 7)

/-! ## The body -/

/-- At the end: the result in place, every arrival and departure waited for. -/
def Done (c : Dev nD) : sProp 𝕄 :=
  iprop(pers m ρ K ∗ ((xM.view.loc (c : Thread nD τ) ↦{fullShare} xv m ρ c) ∗ (wqM.view.loc (c : Thread nD τ) ↦{fullShare} wqv m ρ c)
      ∗ (woM.view.loc (c : Thread nD τ) ↦{fullShare} wov m ρ c) ∗ (outM.view.loc (c : Thread nD τ) ↦{fullShare} outAt m ρ c))
    ∗ semVal (barCell c) 0 ∗ KK m ρ c 8 8 ∗ VV m ρ c 8 8 ∗ owesE c 21 ∗ OWN m ρ c 8 8 7 ∗ XS m ρ c 21 21 21 ∗ XR m ρ c 21)

variable {m ρ K} {c : Dev nD}

theorem part50 {Q : _ → sProp 𝕄}
    (h : St m ρ K c 8 8 8 8 21 8 8 7 21 21 ⊢ Q ⟨a826 (fun s => ml m ρ c s 0) (fun s i => mo m ρ c s (Fin.castLE (by decide) i)) (fun i => wr m ρ c (Fin.castLE (by decide) i)),
      b1365 (fun s => ml m ρ c s 1) (fun s i => mo m ρ c s (Fin.natAdd 4 i)) (fun i => wr m ρ c (Fin.natAdd 4 i)),
      k0_pay129 (b1346 (fun s => ml m ρ c s 1) (fun s i => mo m ρ c s (Fin.natAdd 4 i)))⟩) :
    Pre m ρ K c 0 0 ⊢ W c (app (k0_part50 (F := F))) Q := by
  simp only [app, k0_part50_eq_skeleton]; unfold k0_part50_skel
  refine st_bind (part1 (h := fun _ => ?_))
  refine st_bind (part2 (h := ?_))
  refine st_bind (part3 (h := ?_))
  refine st_bind (part4 (ho := rfl) (hl := rfl) (h := ?_))
  refine st_bind (part5 (h := ?_))
  refine st_bind (part6 (ho := rfl) (hl := rfl) (h := fun _ _ => ?_))
  refine st_bind (part7 (h := fun _ => ?_))
  refine st_bind (part8 (h := ?_))
  refine st_bind (part9 (ho := rfl) (hl := rfl) (h := ?_))
  refine st_bind (part10 (h := ?_))
  refine st_bind (part11 (ho := rfl) (hl := rfl) (h := fun _ _ => ?_))
  refine st_bind (part12 (h := fun _ _ _ => ?_))
  refine st_bind (part13 (h := fun _ _ => ?_))
  refine st_bind (part14 (h := ?_))
  refine st_bind (part15 (ho := rfl) (hl := rfl) (h := ?_))
  refine st_bind (part16 (h := ?_))
  refine st_bind (part17 (ho := rfl) (hl := rfl) (h := fun _ => ?_))
  refine st_bind (part18 (h := fun _ _ => ?_))
  refine st_bind (part19 (h := ?_))
  refine st_bind (part20 (h := ?_))
  refine st_bind (part21 (h := ?_))
  refine st_bind (part22 (h := ?_))
  refine st_bind (part23 (h := ?_))
  refine st_bind (part24 (h := ?_))
  refine st_bind (part25 (h := ?_))
  refine st_bind (part26 (h := ?_))
  refine st_bind (part27 (h := ?_))
  refine st_bind (part28 (h := ?_))
  refine st_bind (part29 (h := ?_))
  refine st_bind (part30 (h := ?_))
  refine st_bind (part31 (ho := rfl) (hl := rfl) (h := fun _ => ?_))
  refine st_bind (part32 (h := fun _ _ => ?_))
  refine st_bind (part33 (h := ?_))
  refine st_bind (part34 (ho := rfl) (hl := rfl) (h := fun _ _ => ?_))
  refine st_bind (part35 (h := fun _ _ => ?_))
  refine st_bind (part36 (h := fun _ _ => ?_))
  refine st_bind (part37 (h := ?_))
  refine st_bind (part38 (h := ?_))
  refine st_bind (part39 (h := ?_))
  refine st_bind (part40 (h := ?_))
  refine st_bind (part41 (h := ?_))
  refine st_bind (part42 (h := ?_))
  refine st_bind (part43 (h := ?_))
  refine st_bind (part44 (h := ?_))
  refine st_bind (part45 (h := ?_))
  refine st_bind (part46 (h := ?_))
  refine st_bind (part47 (h := ?_))
  refine st_bind (part48 (h := ?_))
  refine st_bind (part49 (h := ?_))
  refine st_bind_lift ?_
  refine st_wo ?_
  exact st_ret h

omit [FloatOps F] [Named F] in
theorem write_outM (inb) (f w : Vec F S256x1024 .f32) :
    (outM.access (Rect.unit ![0, 0] S256x1024.size inb) : View sig .tc _ _ _).write (Elt F) f w Finset.univ = w :=
  Memref.write_access_unit_zero_univ (Elt F) cc0_stg3_0 (by funext a; revert a; decide) inb f w

theorem body {Q : PUnit → sProp 𝕄} (h : Done m ρ K c ⊢ Q ⟨⟩) : Pre m ρ K c 0 0 ⊢ W c (app (cc0__attn_body (F := F))) Q := by
  simp only [app, cc0__attn_body_eq_skeleton]; unfold cc0__attn_body_skel
  refine st_bind (part50 (h := ?_))
  refine st_bind_lift ?_
  refine st_wo ?_
  refine st_bind_lift ?_
  unfold St SG
  iintro ⟨#HP, ⟨Hx, Hq, Hw, ⟨%f, Hout⟩, Hz⟩, HK, HV, HO, HW, HX, HR⟩
  iapply (wp_load 𝒱₀ (c : Thread nD τ) none Set.univ (m := outM) (Finset.subset_univ _)) $$ Hout; iintro Hout
  iapply (wp_store 𝒱₀ (c : Thread nD τ) none Set.univ (m := outM) (r := Rect.unit (s := S256x1024) ![0, 0] S256x1024.size inb_S256x1024_S256x1024_0_0) (Mk := Finset.univ) (Finset.subset_univ _)) $$ Hout; iintro Hout
  iapply (st_ret (P := Done m ρ K c) h)
  unfold Done
  isplitr; · iexact HP
  isplitl [Hx Hq Hw Hout]
  · isplitl [Hx]; · iexact Hx
    isplitl [Hq]; · iexact Hq
    isplitl [Hw]; · iexact Hw
    rw [write_outM]
    iexact Hout
  isplitl [Hz]; · iexact Hz
  isplitl [HK]; · iexact HK
  isplitl [HV]; · iexact HV
  isplitl [HO]; · iexact HO
  isplitl [HW]; · iexact HW
  isplitl [HX]; · iexact HX
  iexact HR

end Cert.KProof

end
-- ==== Proof.Mem.lean ====
/- The communication buffers as their pieces, the rings as their slots and the key and value arrays as their heads: how
   the memory a device is launched with is cut up for the body, and put together again after it. -/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The communication buffers -/

/-- The pieces of the output buffer and those of the log-sum buffer, over the four slots. -/
abbrev osel : Finset (Fin 4 × Fin 7) := Finset.univ.filter fun x => ¬ isL x.2
abbrev lsel : Finset (Fin 4 × Fin 7) := Finset.univ.filter fun x => isL x.2

theorem ocover : (osel.biUnion fun x => oset x.1.val (lo x.2) (cnt x.2)) = Finset.univ := by
  ext i
  simp only [Finset.mem_biUnion, Finset.mem_filter, Finset.mem_univ, _root_.true_and, iff_true, oset]
  have h : ∀ h : Fin 8, ∃ p : Fin 7, ¬ isL p ∧ lo p ≤ h.val ∧ h.val < lo p + cnt p := by decide
  obtain ⟨p, hp, h1⟩ := h (i 1)
  exact ⟨(i 0, p), hp, rfl, h1⟩
theorem lcover : (lsel.biUnion fun x => lset x.1.val (lo x.2) (cnt x.2)) = Finset.univ := by
  ext i
  simp only [Finset.mem_biUnion, Finset.mem_filter, Finset.mem_univ, _root_.true_and, iff_true, lset]
  have h : ∀ h : Fin 8, ∃ p : Fin 7, isL p ∧ lo p ≤ h.val ∧ h.val < lo p + cnt p := by decide
  obtain ⟨p, hp, h1⟩ := h (i 1)
  exact ⟨(i 0, p), hp, rfl, h1⟩

theorem odisj : ∀ x ∈ osel, ∀ y ∈ osel, x ≠ y → Disjoint (oset x.1.val (lo x.2) (cnt x.2)) (oset y.1.val (lo y.2) (cnt y.2)) := by
  rintro ⟨s, p⟩ hx ⟨t, q⟩ hy hne
  refine Finset.disjoint_left.mpr fun i hi hj => hne ?_
  simp only [Finset.mem_filter, Finset.mem_univ, _root_.true_and, oset] at hi hj hx hy
  have h : ∀ p q : Fin 7, ¬ isL p → ¬ isL q → ∀ h : Fin 8, (lo p ≤ h.val ∧ h.val < lo p + cnt p) → (lo q ≤ h.val ∧ h.val < lo q + cnt q) → p = q := by decide
  exact Prod.ext (Fin.ext (hi.1.symm.trans hj.1)) (h p q hx hy (i 1) hi.2 hj.2)
theorem ldisj : ∀ x ∈ lsel, ∀ y ∈ lsel, x ≠ y → Disjoint (lset x.1.val (lo x.2) (cnt x.2)) (lset y.1.val (lo y.2) (cnt y.2)) := by
  rintro ⟨s, p⟩ hx ⟨t, q⟩ hy hne
  refine Finset.disjoint_left.mpr fun i hi hj => hne ?_
  simp only [Finset.mem_filter, Finset.mem_univ, _root_.true_and, lset] at hi hj hx hy
  have h : ∀ p q : Fin 7, isL p → isL q → ∀ h : Fin 8, (lo p ≤ h.val ∧ h.val < lo p + cnt p) → (lo q ≤ h.val ∧ h.val < lo q + cnt q) → p = q := by decide
  exact Prod.ext (Fin.ext (hi.1.symm.trans hj.1)) (h p q hx hy (i 1) hi.2 hj.2)

/-- The two buffers, whole, are their pieces. -/
theorem comm_pieces (c : Dev nD) (fo : Vec F S4x8x256x128 .bf16) (fl : Vec F S4x8x256 .f32) :
    (iprop((ocM.view.loc (c : Thread nD τ) ↦{fullShare} fo) ∗ (lcM.view.loc (c : Thread nD τ) ↦{fullShare} fl)) : sProp 𝕄)
      ⊣⊢ bigSep Finset.univ fun s : Fin 4 => bigSep Finset.univ fun p : Fin 7 => piece c p s.val fullShare fo fl := by
  have ho : (ocM.view.loc (c : Thread nD τ) ↦{fullShare} fo : sProp 𝕄) = bigSep Finset.univ fun x : Fin 4 × Fin 7 => if ¬ isL x.2 then ptO c x.1.val (lo x.2) (cnt x.2) fullShare fo else iprop(emp) := by
    refine Eq.trans ?_ (bigSep_filter _ (fun x : Fin 4 × Fin 7 => ¬ isL x.2) fun x => ptO c x.1.val (lo x.2) (cnt x.2) fullShare fo)
    rw [← ocover]
    exact pointsTo_biUnion (ℓ := (c : Thread nD τ).loc cc0_scratch0) osel _ odisj
  have hl : (lcM.view.loc (c : Thread nD τ) ↦{fullShare} fl : sProp 𝕄) = bigSep Finset.univ fun x : Fin 4 × Fin 7 => if isL x.2 then ptL c x.1.val (lo x.2) (cnt x.2) fullShare fl else iprop(emp) := by
    refine Eq.trans ?_ (bigSep_filter _ (fun x : Fin 4 × Fin 7 => isL x.2) fun x => ptL c x.1.val (lo x.2) (cnt x.2) fullShare fl)
    rw [← lcover]
    exact pointsTo_biUnion (ℓ := (c : Thread nD τ).loc cc0_scratch1) lsel _ ldisj
  have h (x : Fin 4 × Fin 7) : (iprop((if ¬ isL x.2 then ptO c x.1.val (lo x.2) (cnt x.2) fullShare fo else emp)
      ∗ if isL x.2 then ptL c x.1.val (lo x.2) (cnt x.2) fullShare fl else emp) : sProp 𝕄) ⊣⊢ piece c x.2 x.1.val fullShare fo fl := by
    unfold piece
    by_cases hx : isL x.2
    · rw [if_neg (not_not.mpr hx), if_pos hx, if_pos hx]
      constructor
      · iintro ⟨-, H⟩; iexact H
      · iintro H
        isplitr; · iempintro
        iexact H
    · rw [if_pos hx, if_neg hx, if_neg hx]
      constructor
      · iintro ⟨H, -⟩; iexact H
      · iintro H
        isplitl; · iexact H
        iempintro
  rw [ho, hl, ← bigSep_sep', ← bigSep_univ_prod (fun x : Fin 4 × Fin 7 => piece c x.2 x.1.val fullShare fo fl)]
  exact ⟨bigSep_mono fun x _ => (h x).1, bigSep_mono fun x _ => (h x).2⟩

omit [FloatOps F] [Named F] in
theorem fin4 (Φ : Fin 4 → sProp 𝕄) : bigSep Finset.univ Φ = iprop(Φ 0 ∗ bigSep Finset.univ fun d : Fin 3 => Φ d.succ) := by
  rw [fin3, bigSep_univ_eq_bigSepL [0, 1, 2, 3] (by decide) (by decide) Φ]; rfl

/-- At launch: slot 0 is the device's own to fill, slots 1 to 3 are to be handed over. -/
theorem comm_in (c : Dev nD) :
    (iprop((∃ f, ocM.view.loc (c : Thread nD τ) ↦{fullShare} f) ∗ ∃ f, lcM.view.loc (c : Thread nD τ) ↦{fullShare} f) : sProp 𝕄)
      ⊢ iprop(OWN m ρ c 0 0 0 ∗ bigSep Finset.univ fun d : Fin 3 => bigSep Finset.univ fun p : Fin 7 => pieceAny (F := F) c p (d.val + 1)) := by
  have h0 (fo : Vec F S4x8x256x128 .bf16) (fl : Vec F S4x8x256 .f32) (p : Fin 7) : piece c p 0 fullShare fo fl ⊢ if p.val < 0 then iprop(emp) else ownP m ρ c 0 0 p := by
    rw [if_neg (Nat.not_lt_zero _)]
    unfold piece ownP
    split
    · iintro H; iexists fl
      isplitr; · ipureintro; exact fun _ _ h => absurd h (Nat.not_lt_zero _)
      iexact H
    · iintro H; iexists fo
      isplitr; · ipureintro; exact fun _ _ h => absurd h (Nat.not_lt_zero _)
      iexact H
  have h1 (fo : Vec F S4x8x256x128 .bf16) (fl : Vec F S4x8x256 .f32) (s : ℕ) (p : Fin 7) : piece c p s fullShare fo fl ⊢ pieceAny (F := F) c p s := by
    unfold pieceAny
    iintro H; iexists fo, fl; iexact H
  have h (fo : Vec F S4x8x256x128 .bf16) (fl : Vec F S4x8x256 .f32) :
      (iprop((ocM.view.loc (c : Thread nD τ) ↦{fullShare} fo) ∗ (lcM.view.loc (c : Thread nD τ) ↦{fullShare} fl)) : sProp 𝕄)
      ⊢ iprop(OWN m ρ c 0 0 0 ∗ bigSep Finset.univ fun d : Fin 3 => bigSep Finset.univ fun p : Fin 7 => pieceAny (F := F) c p (d.val + 1)) := by
    refine (comm_pieces c fo fl).1.trans ?_
    rw [fin4]
    exact BIClass.sep_mono (bigSep_mono fun p _ => h0 fo fl p) (bigSep_mono fun d _ => bigSep_mono fun p _ => h1 fo fl (d.val + 1) p)
  iintro ⟨⟨%fo, Ho⟩, ⟨%fl, Hl⟩⟩
  iapply (h fo fl)
  isplitl [Ho] <;> iassumption

/-- Back from the transfers: the shares of slot 0 and the filled slots are the two buffers at their final contents. -/
theorem comm_out (c : Dev nD) :
    iprop((bigSep Finset.univ fun n : Fin 21 => sendPay m ρ c n) ∗ bigSep Finset.univ fun n : Fin 21 => recvPay m ρ c n)
      ⊢ iprop((∃ f, ocM.view.loc (c : Thread nD τ) ↦{fullShare} f) ∗ ∃ f, lcM.view.loc (c : Thread nD τ) ↦{fullShare} f) := by
  have hs : (bigSep Finset.univ fun n : Fin 21 => sendPay m ρ c n) ⊢ bigSep Finset.univ fun p : Fin 7 => piece c p 0 fullShare (OC m ρ c) (LC m ρ c) := by
    have e : (bigSep Finset.univ fun n : Fin 21 => sendPay m ρ c n) = bigSep Finset.univ fun p : Fin 7 => bigSep Finset.univ fun d : Fin 3 => pieceC m ρ c p 0 (sh d) := by
      rw [bigSep_univ_comm, ← bigSep_univ_prod (fun x : Fin 3 × Fin 7 => pieceC m ρ c x.2 0 (sh x.1)), bigSep_univ_equiv trE]; rfl
    rw [e]
    refine bigSep_mono fun p _ => ?_
    rw [fin3]
    exact (piece_split c p 0 (OC m ρ c) (LC m ρ c)).2
  have hr : (bigSep Finset.univ fun n : Fin 21 => recvPay m ρ c n)
      = bigSep Finset.univ fun d : Fin 3 => bigSep Finset.univ fun p : Fin 7 => piece c p (d.val + 1) fullShare (OC m ρ c) (LC m ρ c) := by
    rw [← bigSep_univ_prod (fun x : Fin 3 × Fin 7 => piece c x.2 (x.1.val + 1) fullShare (OC m ρ c) (LC m ρ c)), bigSep_univ_equiv trE]; rfl
  have h := (comm_pieces c (OC m ρ c) (LC m ρ c)).2
  rw [fin4] at h
  refine ((BIClass.sep_mono hs (le_of_eq hr)).trans h).trans ?_
  iintro ⟨Ho, Hl⟩
  isplitl [Ho]
  · iexists _; iexact Ho
  · iexists _; iexact Hl

/-! ## The rings -/

section Ring

omit [FloatOps F] [Named F] in
theorem fin11 (Φ : Fin 11 → sProp 𝕄) : bigSep Finset.univ Φ
    = iprop((bigSep Finset.univ fun j : Fin 3 => Φ (Fin.castAdd 8 j)) ∗ bigSep Finset.univ fun h : Fin 8 => Φ (Fin.natAdd 3 h)) := by
  rw [bigSep_univ_equiv (finSumFinEquiv : Fin 3 ⊕ Fin 8 ≃ Fin 11), bigSep_univ_sum]; rfl
omit [FloatOps F] [Named F] in
theorem fin11' (Φ : Fin 11 → sProp 𝕄) : bigSep Finset.univ Φ
    = iprop((bigSep Finset.univ fun h : Fin 8 => Φ (Fin.castAdd 3 h)) ∗ (Φ 8 ∗ Φ 9 ∗ Φ 10)) := by
  rw [bigSep_univ_equiv (finSumFinEquiv : Fin 8 ⊕ Fin 3 ≃ Fin 11), bigSep_univ_sum, fin3]; rfl

variable (aM : Memref sig .tc .hbm S4096x8x128 .f32) (bM : Memref sig .tc .vmem S3x4096x128 .f32)
  (sem : Fin 3 → DmaSem sig) (c : Dev nD) (A : Buf (Elt F) (aM.view.loc (c : Thread nD τ)))

/-- Unit-length rectangles at two places of one axis are disjoint, and those at every place cover. -/
theorem head_mem (h : Fin 8) (i : S4096x8x128.Idx) : i ∈ (headR h).set ↔ i 1 = h := by
  rw [Rect.mem_set_unit]
  constructor
  · intro H
    have := H 1
    exact Fin.ext (by simp at this; omega)
  · rintro rfl a
    match a with
    | 0 => exact ⟨Nat.zero_le _, by have := (i 0).isLt; simpa using this⟩
    | 1 => exact ⟨le_refl _, Nat.lt_succ_self _⟩
    | 2 => exact ⟨Nat.zero_le _, by have := (i 2).isLt; simpa using this⟩
theorem slot_mem (j : Fin 3) (i : S3x4096x128.Idx) : i ∈ (slotR j).set ↔ i 0 = j := by
  rw [Rect.mem_set_unit]
  constructor
  · intro H
    have := H 0
    exact Fin.ext (by simp at this; omega)
  · rintro rfl a
    match a with
    | 0 => exact ⟨le_refl _, Nat.lt_succ_self _⟩
    | 1 => exact ⟨Nat.zero_le _, by have := (i 1).isLt; simpa using this⟩
    | 2 => exact ⟨Nat.zero_le _, by have := (i 2).isLt; simpa using this⟩

omit [FloatOps F] [Named F] in
theorem heads (hA : aM.view.set = Finset.univ) :
    (aM.view.loc (c : Thread nD τ) ↦{fullShare} A : sProp 𝕄) = bigSep Finset.univ (srcPt aM c A) := by
  have hs (h : Fin 8) : (srcM aM h).view.set = aM.view.setOn (headR h).set :=
    (View.set_reshape (aM.view.slice (headR h)) _).trans (View.set_slice aM.view (headR h))
  have hu : (Finset.univ.biUnion fun h => (srcM aM h).view.set) = (Finset.univ : Finset aM.view.ty.Idx) := by
    rw [← hA, show (fun h => (srcM aM h).view.set) = fun h => (headR h).set.map aM.view.emb from funext hs]
    ext x
    simp only [Finset.mem_biUnion, Finset.mem_univ, _root_.true_and, View.set, Finset.mem_map]
    constructor
    · rintro ⟨h, i, -, e⟩; exact ⟨i, e⟩
    · rintro ⟨i, e⟩; exact ⟨i 1, i, (head_mem _ _).mpr rfl, e⟩
  show (aM.view.loc (c : Thread nD τ) ↦[(Finset.univ : Finset aM.view.ty.Idx)]{fullShare} A : sProp 𝕄) = _
  rw [← hu]
  refine pointsTo_biUnion _ _ fun h _ h' _ hne => ?_
  rw [hs, hs]
  refine (Finset.disjoint_map _).mpr (Finset.disjoint_left.mpr fun i hi hj => hne ?_)
  rw [head_mem] at hi hj
  exact hi.symm.trans hj

theorem slot_cover (hB : bM.view.set = Finset.univ) : (Finset.univ.biUnion fun j => (dstM bM j).view.set) = (Finset.univ : Finset bM.view.ty.Idx) := by
  rw [← hB, show (fun j => (dstM bM j).view.set) = fun j => (slotR j).set.map bM.view.emb from funext fun j => (slot_set bM j).symm]
  ext x
  simp only [Finset.mem_biUnion, Finset.mem_univ, _root_.true_and, View.set, Finset.mem_map]
  constructor
  · rintro ⟨h, i, -, e⟩; exact ⟨i, e⟩
  · rintro ⟨i, e⟩; exact ⟨i 0, i, (slot_mem _ _).mpr rfl, e⟩
theorem slot_disj : ∀ j ∈ (Finset.univ : Finset (Fin 3)), ∀ j' ∈ (Finset.univ : Finset (Fin 3)), j ≠ j' → Disjoint (dstM bM j).view.set (dstM bM j').view.set := by
  intro h _ h' _ hne
  rw [← slot_set, ← slot_set]
  refine (Finset.disjoint_map _).mpr (Finset.disjoint_left.mpr fun i hi hj => hne ?_)
  rw [slot_mem] at hi hj
  exact hi.symm.trans hj

omit [FloatOps F] [Named F] in
theorem slots_in (hB : bM.view.set = Finset.univ) (f : Buf (Elt F) (bM.view.loc (c : Thread nD τ))) :
    (bM.view.loc (c : Thread nD τ) ↦{fullShare} f : sProp 𝕄) = bigSep Finset.univ fun j => slotPt bM c j f := by
  show (bM.view.loc (c : Thread nD τ) ↦[(Finset.univ : Finset bM.view.ty.Idx)]{fullShare} f : sProp 𝕄) = _
  rw [← slot_cover bM hB]
  exact pointsTo_biUnion _ _ (slot_disj bM)

omit [FloatOps F] [Named F] in
theorem slots_out (hB : bM.view.set = Finset.univ) (f0 f1 f2 : Buf (Elt F) (bM.view.loc (c : Thread nD τ))) :
    iprop(slotPt bM c 0 f0 ∗ slotPt bM c 1 f1 ∗ slotPt bM c 2 f2) ⊢ (iprop(∃ f, bM.view.loc (c : Thread nD τ) ↦{fullShare} f) : sProp 𝕄) := by
  have h := pointsTo_biUnion_join (Ix := Unit) (Name := ℕ) (U := UU) (Lvl := ℕ) (q := fullShare) (ℓ := bM.view.loc (c : Thread nD τ)) Finset.univ (fun j => (dstM bM j).view.set) (![f0, f1, f2] : Fin 3 → _) f0 (slot_disj bM)
  rw [fin3, slot_cover bM hB] at h
  refine BIBase.Entails.trans h ?_
  iintro ⟨%g, -, H⟩
  iexists g; iexact H

/-- Before the first fetch. -/
theorem ring_in (hA : aM.view.set = Finset.univ) (hB : bM.view.set = Finset.univ) :
    iprop((∃ f, bM.view.loc (c : Thread nD τ) ↦{fullShare} f) ∗ (aM.view.loc (c : Thread nD τ) ↦{fullShare} A)
        ∗ bigSep Finset.univ fun j => semVal ((c : Thread nD τ), .dma (sem j)) 0)
      ⊢ (KB aM bM sem c A 0 0 : sProp 𝕄) := by
  have e : (KB aM bM sem c A 0 0 : sProp 𝕄) = iprop((bigSep Finset.univ fun j : Fin 3 => kb aM bM sem c A 0 0 (Fin.castAdd 8 j))
      ∗ bigSep Finset.univ fun h : Fin 8 => kb aM bM sem c A 0 0 (Fin.natAdd 3 h)) := by
    unfold KB; rw [fin11]
  have h1 (f : Buf (Elt F) (bM.view.loc (c : Thread nD τ))) (j : Fin 3) : iprop(slotPt bM c j f ∗ semVal ((c : Thread nD τ), .dma (sem j)) 0) ⊢ kb aM bM sem c A 0 0 (Fin.castAdd 8 j) := by
    unfold kb slotOk
    have hj : sl (Fin.castAdd 8 j) = j := by revert j; decide
    rw [if_pos (show (Fin.castAdd 8 j).val < 0 + 3 from j.isLt), if_neg (show ¬ 3 ≤ (Fin.castAdd 8 j).val from Nat.not_le.mpr j.isLt), if_pos (Nat.zero_le _), hj]
    iintro ⟨H, Hv⟩
    isplitr; · iempintro
    iexists f
    isplitr; · ipureintro; exact fun h => absurd h (Nat.not_le.mpr j.isLt)
    isplitl [H] <;> iassumption
  have h2 (h : Fin 8) : kb aM bM sem c A 0 0 (Fin.natAdd 3 h) = srcPt aM c A h := by
    unfold kb
    have hj : hd (Fin.natAdd 3 h) = h := by revert h; decide
    rw [if_neg (show ¬ (Fin.natAdd 3 h).val < 0 + 3 from by show ¬ 3 + h.val < 0 + 3; omega), if_neg (show ¬ (Fin.natAdd 3 h).val < 0 + 3 from by show ¬ 3 + h.val < 0 + 3; omega), hj]
  rw [e, bigSep_congr (fun h _ => h2 h), heads aM c A hA]
  have h3 (f : Buf (Elt F) (bM.view.loc (c : Thread nD τ))) :
      iprop((bigSep Finset.univ fun j => slotPt bM c j f) ∗ bigSep Finset.univ fun j => semVal ((c : Thread nD τ), .dma (sem j)) 0)
        ⊢ bigSep Finset.univ fun j : Fin 3 => kb aM bM sem c A 0 0 (Fin.castAdd 8 j) := by
    rw [← bigSep_sep']; exact bigSep_mono fun j _ => h1 f j
  iintro ⟨⟨%f, Hb⟩, Ha, Hv⟩
  isplitl [Hb Hv]
  · iapply ((BIClass.sep_mono (le_of_eq (slots_in bM c hB f)) .rfl).trans (h3 f))
    isplitl [Hb] <;> iassumption
  · iexact Ha

/-- After the last. -/
theorem ring_out (hA : aM.view.set = Finset.univ) (hB : bM.view.set = Finset.univ) :
    (KB aM bM sem c A 8 8 : sProp 𝕄)
      ⊢ iprop((∃ f, bM.view.loc (c : Thread nD τ) ↦{fullShare} f) ∗ (aM.view.loc (c : Thread nD τ) ↦{fullShare} A)
        ∗ bigSep Finset.univ fun j => semVal ((c : Thread nD τ), .dma (sem j)) 0) := by
  have e : (KB aM bM sem c A 8 8 : sProp 𝕄) = iprop((bigSep Finset.univ fun i : Fin 11 => if 3 ≤ i.val then srcPt aM c A (hd i) else iprop(emp))
      ∗ bigSep Finset.univ fun i : Fin 11 => if 8 ≤ i.val then slotOk aM bM sem c A i else iprop(emp)) := by
    unfold KB
    rw [← bigSep_sep']
    refine bigSep_congr fun i _ => ?_
    unfold kb; rw [if_pos (show i.val < 8 + 3 from i.isLt)]
  have h1 : (bigSep Finset.univ fun i : Fin 11 => if 3 ≤ i.val then srcPt aM c A (hd i) else iprop(emp)) ⊢ (aM.view.loc (c : Thread nD τ) ↦{fullShare} A : sProp 𝕄) := by
    rw [fin11, heads aM c A hA]
    have h (h : Fin 8) : (if 3 ≤ (Fin.natAdd 3 h).val then srcPt aM c A (hd (Fin.natAdd 3 h)) else iprop(emp) : sProp 𝕄) = srcPt aM c A h := by
      have hj : hd (Fin.natAdd 3 h) = h := by revert h; decide
      rw [if_pos (show 3 ≤ (Fin.natAdd 3 h).val from Nat.le_add_right ..), hj]
    have h' : (bigSep Finset.univ fun h : Fin 8 => (if 3 ≤ (Fin.natAdd 3 h).val then srcPt aM c A (hd (Fin.natAdd 3 h)) else iprop(emp) : sProp 𝕄)) = bigSep Finset.univ (srcPt aM c A) :=
      bigSep_congr fun h' _ => h h'
    iintro ⟨-, H⟩
    rw [← h']
    iexact H
  have h2 : (bigSep Finset.univ fun i : Fin 11 => if 8 ≤ i.val then slotOk aM bM sem c A i else iprop(emp))
      ⊢ iprop(slotOk aM bM sem c A 8 ∗ slotOk aM bM sem c A 9 ∗ slotOk aM bM sem c A 10) := by
    rw [fin11']
    iintro ⟨-, H⟩
    iexact H
  rw [e]
  refine (BIClass.sep_mono h1 h2).trans ?_
  unfold slotOk
  rw [fin3]
  iintro ⟨Ha, ⟨%f2, -, H2, Hv2⟩, ⟨%f0, -, H0, Hv0⟩, ⟨%f1, -, H1, Hv1⟩⟩
  isplitl [H0 H1 H2]
  · iapply (slots_out bM c hB f0 f1 f2)
    isplitl [H0]; · iexact H0
    isplitl [H1]; · iexact H1
    iexact H2
  isplitl [Ha]; · iexact Ha
  isplitl [Hv0]; · iexact Hv0
  isplitl [Hv1]; · iexact Hv1
  iexact Hv2

end Ring

end Cert.KProof

end
-- ==== Proof.Ghost.lean ====
/- The ghost state of the launch: every device's cells opened, the tokens of their duties dealt to the devices that pay
   them, and the launch credits of the barrier and receive cells. -/
module

public import proofs.«01_k».proof.Proof.Mem

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The semaphores -/

/-- The kernel's own semaphores: three for each ring, twenty-one departures and arrivals. -/
abbrev OI : Type := (Fin 3 ⊕ Fin 3) ⊕ (Fin 21 ⊕ Fin 21)
abbrev osem : OI → SemLoc sig
  | .inl (.inl j) => .dma (lS false j)
  | .inl (.inr j) => .dma (lS true j)
  | .inr (.inl n) => .dma (sS n)
  | .inr (.inr n) => .dma (rS n)

theorem decS_lS (b : Bool) (j : Fin 3) : decS (lS b j) = none := by revert b j; decide
theorem lS_inj : ∀ b b' : Bool, ∀ j j' : Fin 3, lS b j = lS b' j' → b = b' ∧ j = j' := by decide
theorem lS_ne_sS (b j n) : lS b j ≠ sS n := fun h => by have := congrArg decS h; rw [decS_lS, decS_sS] at this; cases this
theorem lS_ne_rS (b j n) : lS b j ≠ rS n := fun h => by have := congrArg decR h; rw [decR_lS, decR_rS] at this; cases this

theorem osem_inj : Function.Injective osem := by
  rintro ((j | j) | (n | n)) ((j' | j') | (n' | n')) h <;> have h := SemLoc.dma.inj h
  · rw [(lS_inj _ _ _ _ h).2]
  · exact absurd (lS_inj _ _ _ _ h).1 (by decide)
  · exact absurd h (lS_ne_sS _ _ _)
  · exact absurd h (lS_ne_rS _ _ _)
  · exact absurd (lS_inj _ _ _ _ h).1 (by decide)
  · rw [(lS_inj _ _ _ _ h).2]
  · exact absurd h (lS_ne_sS _ _ _)
  · exact absurd h (lS_ne_rS _ _ _)
  · exact absurd h.symm (lS_ne_sS _ _ _)
  · exact absurd h.symm (lS_ne_sS _ _ _)
  · rw [sS_inj h]
  · exact absurd h (sS_ne_rS _ _)
  · exact absurd h.symm (lS_ne_rS _ _ _)
  · exact absurd h.symm (lS_ne_rS _ _ _)
  · exact absurd h.symm (sS_ne_rS _ _)
  · rw [rS_inj h]

theorem ownSemFacts : Pipeline.OwnSemFacts cfg0.spec osem where
  isScoped := by decide
  inj := osem_inj
  disj := by decide

omit [FloatOps F] [Named F] in
theorem bigSep_CI (Φ : CI → sProp 𝕄) : bigSep Finset.univ Φ
    = iprop(Φ none ∗ (bigSep Finset.univ fun n => Φ (some (false, n))) ∗ bigSep Finset.univ fun n => Φ (some (true, n))) := by
  let e : Unit ⊕ (Fin 21 ⊕ Fin 21) ≃ CI :=
    { toFun := fun | .inl _ => none | .inr (.inl n) => some (false, n) | .inr (.inr n) => some (true, n)
      invFun := fun | none => .inl () | some (false, n) => .inr (.inl n) | some (true, n) => .inr (.inr n)
      left_inv := by rintro (_ | _ | _) <;> rfl
      right_inv := by rintro (_ | ⟨_ | _, _⟩) <;> rfl }
  rw [bigSep_univ_equiv e, bigSep_univ_sum, bigSep_univ_sum, bigSep_univ_of_subsingleton ()]; rfl

/-- The load semaphores, at zero. -/
def lsem (c : Dev nD) : sProp 𝕄 :=
  iprop((bigSep Finset.univ fun j => semVal ((c : Thread nD τ), .dma (lS false j)) 0) ∗ bigSep Finset.univ fun j => semVal ((c : Thread nD τ), .dma (lS true j)) 0)

omit [FloatOps F] [Named F] in
theorem ownSems0_eq (c : Dev nD) : (Pipeline.ownSems0 (Ix := Unit) (Name := ℕ) (U := UU) (Lvl := ℕ) (Val := Elt F) (τ := τ) osem c : sProp 𝕄)
    = iprop(lsem (F := F) c ∗ (bigSep Finset.univ fun n => semVal (sendCell c n) 0) ∗ bigSep Finset.univ fun n => semVal (recvCell c n) 0) := by
  unfold Pipeline.ownSems0 lsem; rw [bigSep_univ_sum, bigSep_univ_sum, bigSep_univ_sum]; rfl
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ lsem (F := F) c) : sProp 𝕄) := by
  rw [ownSems0_eq, unscopedSems0_eq, bigSep_CI]
  iintro ⟨⟨HL, HS, HV⟩, HB⟩
  isplitr [HL]
  · isplitl [HB]; · iexact HB
    isplitl [HS] <;> iassumption
  · iexact HL

/-! ## The cells and their tokens -/

theorem csem_inj : Function.Injective csem := by
  rintro (_ | ⟨_ | _, n⟩) (_ | ⟨_ | _, n'⟩) h
  · rfl
  · cases h
  · cases h
  · cases h
  · rw [sS_inj (SemLoc.dma.inj h)]
  · exact absurd (SemLoc.dma.inj h) (sS_ne_rS _ _)
  · cases h
  · exact absurd (SemLoc.dma.inj h).symm (sS_ne_rS _ _)
  · rw [rS_inj (SemLoc.dma.inj h)]
theorem kcell_inj : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def ringCells : Finset (GSem nD τ sig) := Finset.univ.map ⟨kcell, kcell_inj⟩

/-- The duties of a device's cells: three of its barrier, one of each departure and of each arrival. -/
abbrev TI : Type := Fin 3 ⊕ (Fin 21 ⊕ Fin 21)
abbrev tci : TI → CI × Fin 3
  | .inl d => (none, d)
  | .inr (.inl n) => (some (false, n), 0)
  | .inr (.inr n) => (some (true, n), 0)
theorem tci_inj : Function.Injective tci := by
  rintro (d | n | n) (d' | n' | n') h
  · cases h; rfl
  · cases h
  · cases h
  · cases h
  · cases h; rfl
  · cases h
  · cases h
  · cases h
  · cases h; rfl
abbrev tokOf (x : Dev nD × TI) : GSem nD τ sig × ℕ × Fin 3 := (kcell (x.1, (tci x.2).1), 0, (tci x.2).2)
theorem tokOf_inj : Function.Injective tokOf := by
  rintro ⟨c, t⟩ ⟨c', t'⟩ h
  have h1 := kcell_inj (congrArg Prod.fst h)
  have h2 : (tci t).2 = (tci t').2 := congrArg (fun x : GSem nD τ sig × ℕ × Fin 3 => x.2.2) h
  have h3 : tci t = tci t' := Prod.ext (congrArg (fun x : Dev nD × CI => x.2) h1) h2
  exact Prod.ext (show c = c' from congrArg (fun x : Dev nD × CI => x.1) h1) (tci_inj h3)
def ringToks : Finset (GSem nD τ sig × ℕ × Fin 3) := Finset.univ.map ⟨tokOf, tokOf_inj⟩

def u₀ : UU :=
  (initOf (Pipeline.cells cfgs cellOf_inj) (Pipeline.launchToks cfgs cellOf_inj), (initOf ringCells ringToks, (1 : Counters)))

/-- The tokens of device `c`'s own cells; and those of the duties `c` pays. -/
def toks (c : Dev nD) : sProp 𝕄 :=
  iprop((bigSep Finset.univ fun d : Fin 3 => dutyTok ER (barCell c) 0 d) ∗ (bigSep Finset.univ fun n : Fin 21 => dutyTok ER (sendCell c n) 0 (0 : Fin 3))
    ∗ bigSep Finset.univ fun n : Fin 21 => dutyTok ER (recvCell c n) 0 (0 : Fin 3))
def payToks (c : Dev nD) : sProp 𝕄 :=
  iprop((bigSep Finset.univ fun d : Fin 3 => dutyTok ER (barCell (nx c d)) 0 (op d)) ∗ (bigSep Finset.univ fun n : Fin 21 => dutyTok ER (sendCell c n) 0 (0 : Fin 3))
    ∗ bigSep Finset.univ fun n : Fin 21 => dutyTok ER (recvCell (nx c (dd n)) n) 0 (0 : Fin 3))

def nxE (d : Fin 3) : Dev nD ≃ Dev nD where
  toFun c := nx c d
  invFun c := nx c (op d)
  left_inv c := nx_op c d
  right_inv c := by revert c d; decide
def opE : Fin 3 ≃ Fin 3 where
  toFun := op
  invFun := op
  left_inv := op_op
  right_inv := op_op

omit [FloatOps F] [Named F] in
/-- Every token goes to the device that pays its duty. -/
theorem toks_around : (bigSep Finset.univ fun c : Dev nD => (toks c : sProp 𝕄)) ⊢ bigSep Finset.univ fun c : Dev nD => payToks c := by
  have h1 : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (nx c d)) 0 (op d) := by
    rw [bigSep_univ_comm, bigSep_univ_equiv opE, bigSep_univ_comm (fun (c : Dev nD) (d : Fin 3) => (dutyTok ER (barCell (nx c d)) 0 (op d) : sProp 𝕄))]
    exact bigSep_congr fun d _ => bigSep_univ_equiv (nxE d) _
  have h2 : (bigSep Finset.univ fun c : Dev nD => bigSep Finset.univ fun n : Fin 21 => (dutyTok ER (recvCell c n) 0 (0 : Fin 3) : sProp 𝕄))
      = bigSep Finset.univ fun c : Dev nD => bigSep Finset.univ fun n : Fin 21 => dutyTok ER (recvCell (nx c (dd n)) n) 0 (0 : Fin 3) := by
    rw [bigSep_univ_comm, bigSep_univ_comm (fun (c : Dev nD) (n : Fin 21) => (dutyTok ER (recvCell (nx c (dd n)) n) 0 (0 : Fin 3) : sProp 𝕄))]
    exact bigSep_congr fun n _ => bigSep_univ_equiv (nxE (dd n)) _
  unfold toks payToks
  rw [bigSep_sep', bigSep_sep', bigSep_sep', bigSep_sep', h1, h2]

/-! ## The global step -/

def G (c : Dev nD) : sProp 𝕄 :=
  iprop((bigSep Finset.univ fun k : CI => roundState ER (rd m ρ) (kcell (c, k)) 0)
    ∗ (bigSep Finset.univ fun k : CI => iprop(atPos ER (kcell (c, k)) 0 ∅ 0 ∗ reached ER (kcell (c, k)) 0)) ∗ toks (F := F) c)
/-- What a device starts with besides the records. -/
def linear (c : Dev nD) : sProp 𝕄 :=
  iprop((bigSep Finset.univ fun k : CI => atPos ER (kcell (c, k)) 0 ∅ 0) ∗ payToks (F := F) c ∗ lsem (F := F) c)
def G' (c : Dev nD) : sProp 𝕄 := iprop(∃ K, records m ρ K ∗ linear (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- One device's semaphores at zero become its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks (F := F) c ∗ lsem (F := F) c) := by
  have hinv : iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Hos, Hus, Hst, Hat, Htok⟩
  ihave Hv := (sems0_split (F := F) c) $$ [Hos Hus]
  · isplitl [Hos] <;> iassumption
  icases Hv with ⟨Hv, HL⟩
  imod hinv $$ [Hv Hst] with Hinv
  · isplitl [Hv] <;> iassumption
  imodintro
  isplitl [Hinv]; · iexact Hinv
  isplitl [Hat]; · iexact Hat
  isplitl [Htok] <;> iassumption

omit [FloatOps F] [Named F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m ρ K ∗ linear (F := F) c) ⊢ G' m ρ c := by
  unfold G'
  iintro H; iexists K; iexact H

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks (F := F) c ∗ lsem (F := F) c) : sProp 𝕄)
      ⊢ bigSep Finset.univ (G' m ρ) := by
  have hl : iprop((bigSep Finset.univ fun c : Dev nD => bigSep Finset.univ fun k : CI => (atPos ER (kcell (c, k)) 0 ∅ 0 : sProp 𝕄))
      ∗ (bigSep Finset.univ fun c : Dev nD => payToks (F := F) c) ∗ bigSep Finset.univ fun c : Dev nD => lsem (F := F) c) ⊢ bigSep Finset.univ fun c : Dev nD => linear (F := F) c := by
    unfold linear
    rw [bigSep_sep', bigSep_sep']
  rw [bigSep_sep', bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, HL⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply hl
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem nx_iff (c d : Dev nD) (k : Fin 3) : c = nx d k ↔ d = nx c (op k) := by revert c d k; decide
theorem bar_eq {a b : Dev nD} : barCell a = barCell b ↔ a = b := ⟨fun h => congrArg (fun g : GSem nD τ sig => g.1.1) h, fun h => h ▸ rfl⟩
theorem recv_eq {a b : Dev nD} {n k : Fin 21} : recvCell a n = recvCell b k ↔ a = b ∧ n = k :=
  ⟨fun h => ⟨congrArg (fun g : GSem nD τ sig => g.1.1) h, rS_inj (SemLoc.dma.inj (congrArg Prod.snd h))⟩, fun h => by rw [h.1, h.2]⟩
theorem recv_ne_bar (a b : Dev nD) (n : Fin 21) : recvCell a n ≠ barCell b := fun h => by cases congrArg Prod.snd h

theorem owL_bar (d c : Dev nD) (l : List (Fin 21)) : owL d l (barCell c) () = 0 := by
  induction l with
  | nil => rfl
  | cons n l ih => rw [owL, Pi.add_apply, Finsupp.add_apply, ih, tallyAt_apply, if_neg fun h => recv_ne_bar _ _ _ h.1.symm]
theorem owL_recv (d c : Dev nD) (n : Fin 21) (l : List (Fin 21)) (hl : l.Nodup) :
    owL d l (recvCell c n) () = if n ∈ l then (if d = nx c (op (dd n)) then Np (pp n) else 0) else 0 := by
  induction l with
  | nil => rfl
  | cons k l ih =>
    rw [owL, Pi.add_apply, Finsupp.add_apply, ih hl.of_cons, tallyAt_apply]
    by_cases hk : n = k
    · subst hk
      rw [if_neg (List.nodup_cons.mp hl).1, if_pos (List.mem_cons_self ..), Nat.zero_add]
      refine if_congr ?_ rfl rfl
      rw [recv_eq, nx_iff]
      exact ⟨fun h => h.1.1, fun h => ⟨⟨h, rfl⟩, rfl⟩⟩
    · rw [if_neg (show ¬ (recvCell c n = recvCell (nx d (dd k)) k ∧ () = ()) from fun h => hk (recv_eq.mp h.1).2), Nat.add_zero]
      refine if_congr ?_ rfl rfl
      rw [List.mem_cons]
      exact ⟨Or.inr, fun h => h.resolve_left hk⟩

theorem owed_bar (d c : Dev nD) : O₀ d (barCell c) () = (if d = nx c (op 2) then 1 else 0) + (if d = nx c (op 1) then 1 else 0) + (if d = nx c (op 0) then 1 else 0) := by
  have h (k : Fin 3) : (tallyAt (barCell (nx d k)) () 1 : CellTallies nD τ sig Unit) (barCell c) () = if d = nx c (op k) then 1 else 0 := by
    rw [tallyAt_apply]
    refine if_congr ?_ rfl rfl
    rw [bar_eq, nx_iff]
    exact ⟨fun h => h.1, fun h => ⟨h, rfl⟩⟩
  have h0 : owS d 0 (barCell c) () = 0 := owL_bar d c (rem 0)
  unfold O₀
  rw [Pi.add_apply, Finsupp.add_apply, Pi.add_apply, Finsupp.add_apply, Pi.add_apply, Finsupp.add_apply, h0, h, h, h, Nat.zero_add]
theorem owed_recv (d c : Dev nD) (n : Fin 21) : O₀ d (recvCell c n) () = if d = nx c (op (dd n)) then Np (pp n) else 0 := by
  have h (k : Fin 3) : (tallyAt (barCell (nx d k)) () 1 : CellTallies nD τ sig Unit) (recvCell c n) () = 0 := by
    rw [tallyAt_apply, if_neg fun h => recv_ne_bar _ _ _ h.1]
  have h0 : owS d 0 (recvCell c n) () = if d = nx c (op (dd n)) then Np (pp n) else 0 := by
    refine (owL_recv d c n (rem 0) (List.nodup_finRange 21)).trans (if_pos (List.mem_finRange n))
  unfold O₀
  rw [Pi.add_apply, Finsupp.add_apply, Pi.add_apply, Finsupp.add_apply, Pi.add_apply, Finsupp.add_apply, h0, h, h, h]; rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]
theorem launch_recv (c : Dev nD) (n : Fin 21) :
    tallyOn (recvCell c n) (launchCredit (Pipeline.owing O₀) 0 (recvCell c n)) = (tallyAt (recvCell c n) () (Np (pp n)) : CellTallies nD τ sig Unit) := by
  unfold tallyAt; refine congrArg _ (Finsupp.ext fun u => ?_); cases u
  rw [Pipeline.launchCredit_owing, Finsupp.single_eq_same, Finset.sum_congr rfl fun d _ => owed_recv d c n, Finset.sum_ite_eq' Finset.univ _ fun _ => Np (pp n),
    if_pos (Finset.mem_univ _)]

omit [FloatOps F] [Named F] in
theorem creds (c : Dev nD) :
    (Pipeline.launchCred O₀ c : sProp 𝕄) ⊢ iprop(cred (tallyAt (barCell c) () 3) ∗ bigSep Finset.univ fun n => cred (tallyAt (recvCell c n) () (Np (pp n)))) := by
  let e : Fin 21 ↪ SemLoc sig := ⟨fun n => .dma (rS n), fun a b h => rS_inj (SemLoc.dma.inj h)⟩
  have h : (bigSep (Finset.univ.erase (SemLoc.reg barS)) fun sm : SemLoc sig => (cred (tallyOn ((c : Thread nD τ), sm) (launchCredit (Pipeline.owing O₀) 0 ((c : Thread nD τ), sm))) : sProp 𝕄))
      ⊢ bigSep Finset.univ fun n => cred (tallyAt (recvCell c n) () (Np (pp n))) := by
    refine (bigSep_subset (t := Finset.univ.map e) fun x hx => ?_).trans ?_
    · obtain ⟨n, -, rfl⟩ := Finset.mem_map.mp hx
      exact Finset.mem_erase.mpr ⟨(fun h => by cases h), Finset.mem_univ _⟩
    · rw [bigSep_map]
      exact bigSep_mono fun n _ => Entails.of_eq (congrArg cred (launch_recv c n))
  unfold Pipeline.launchCred
  rw [bigSep_univ_at _ (SemLoc.reg barS), launch_bar]
  exact sep_mono_right h

end Cert.KProof

end
-- ==== Proof.Run.lean ====
/- The run of the four devices: the launch theorem's data, the body against its obligation, and what every final state holds. -/
module

public import proofs.«01_k».proof.Proof.Ghost
public import proofs.«01_k».proof.Proof.Gen.KernelIdeal.Points
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch theorem's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The four scratch buffers, at some contents; the key and value arrays at theirs. -/
def scr (c : Dev nD) : sProp 𝕄 :=
  iprop((∃ f, ocM.view.loc (c : Thread nD τ) ↦{fullShare} f) ∗ (∃ f, lcM.view.loc (c : Thread nD τ) ↦{fullShare} f)
    ∗ (∃ f, kbM.view.loc (c : Thread nD τ) ↦{fullShare} f) ∗ (∃ f, vbM.view.loc (c : Thread nD τ) ↦{fullShare} f))
def kvPt (c : Dev nD) : sProp 𝕄 :=
  iprop((kM.view.loc (c : Thread nD τ) ↦{fullShare} ka m ρ c) ∗ (vM.view.loc (c : Thread nD τ) ↦{fullShare} va m ρ c))

/-- What the launch gives a device besides its scratch buffers. -/
def start (c : Dev nD) : sProp 𝕄 :=
  iprop(G' m ρ c ∗ (cred (tallyAt (barCell c) () 3) ∗ bigSep Finset.univ fun n => cred (tallyAt (recvCell c n) () (Np (pp n)))) ∗ levAts L lv ∗ kvPt m ρ c)
def Φ₀ (c : Dev nD) : sProp 𝕄 := iprop(start m ρ c ∗ scr (F := F) c)
def Φ₁ (c : Dev nD) : sProp 𝕄 :=
  iprop(scr (F := F) c ∗ (lsem (F := F) c ∗ (bigSep Finset.univ fun n => semVal (sendCell c n) 0) ∗ bigSep Finset.univ fun n => semVal (recvCell c n) 0)
    ∗ semVal (barCell c) 0 ∗ kvPt m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => wqv m ρ c
    | ⟨2, _⟩ => wov m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The body's state from what the launch gives, and back -/

theorem pre_intro (K : Dev nD × CI → ℕ) (c : Dev nD) :
    iprop((records m ρ K ∗ linear (F := F) c) ∗ (cred (tallyAt (barCell c) () 3) ∗ bigSep Finset.univ fun n => cred (tallyAt (recvCell c n) () (Np (pp n))))
        ∗ levAts L lv ∗ kvPt m ρ c ∗ scr (F := F) c ∗ SG0 m ρ c ∗ ∃ W, owes (c : Thread nD τ) (O₀ c) W)
      ⊢ Pre m ρ K c 0 0 := by
  have hr (n : Fin 21) : iprop(atPos ER (recvCell c n) 0 ∅ 0 ∗ cred (tallyAt (recvCell c n) () (Np (pp n)))) ⊢ xr m ρ c 0 n := by
    unfold xr; rw [if_neg (Nat.not_lt_zero _)]
  have hR : iprop((bigSep Finset.univ fun n => atPos ER (recvCell c n) 0 ∅ 0) ∗ bigSep Finset.univ fun n => cred (tallyAt (recvCell c n) () (Np (pp n)))) ⊢ XR m ρ c 0 := by
    rw [← bigSep_sep']; exact bigSep_mono fun n _ => hr n
  have hT : iprop((bigSep Finset.univ fun n : Fin 21 => dutyTok ER (sendCell c n) 0 (0 : Fin 3)) ∗ (bigSep Finset.univ fun n : Fin 21 => dutyTok ER (recvCell (nx c (dd n)) n) 0 (0 : Fin 3))
      ∗ bigSep Finset.univ fun n => atPos ER (sendCell c n) 0 ∅ 0) ⊢ bigSep Finset.univ (todo0 (F := F) c) := by
    unfold todo0; rw [bigSep_sep', bigSep_sep']
  unfold linear payToks lsem kvPt scr Pre Bar pers
  rw [bigSep_CI]
  iintro ⟨⟨HR, ⟨HaB, HaS, HaV⟩, ⟨HtB, HtS, HtV⟩, HlK, HlV⟩, ⟨Hc, Hcr⟩, Hlv, ⟨Hk, Hv⟩, ⟨Ho, Hl, Hkb, Hvb⟩, HG, HO⟩
  ihave HC := (comm_in m ρ c) $$ [Ho Hl]
  · isplitl [Ho] <;> iassumption
  icases HC with ⟨Hown, Hp⟩
  isplitl [HR Hlv]
  · isplitl [HR] <;> iassumption
  isplitl [HG]; · iexact HG
  isplitl [Hk Hkb HlK]
  · iapply (ring_in kM kbM (lS false) c (ka m ρ c) (View.set_whole _) (View.set_whole _))
    isplitl [Hkb]; · iexact Hkb
    isplitl [Hk] <;> iassumption
  isplitl [Hv Hvb HlV]
  · iapply (ring_in vM vbM (lS true) c (va m ρ c) (View.set_whole _) (View.set_whole _))
    isplitl [Hvb]; · iexact Hvb
    isplitl [Hv] <;> iassumption
  isplitl [HO]; · iexact HO
  isplitl [Hown]; · iexact Hown
  isplitl [HaV Hcr]
  · iapply hR
    isplitl [HaV] <;> iassumption
  isplitl [HtB Hp HaB Hc]
  · isplitl [HtB]; · iexact HtB
    isplitl [Hp]; · iexact Hp
    isplitl [HaB] <;> iassumption
  iapply hT
  isplitl [HtS]; · iexact HtS
  isplitl [HtV] <;> iassumption

theorem done_elim (K : Dev nD × CI → ℕ) (c : Dev nD) :
    Done m ρ K c ⊢ iprop(Φ₁ m ρ c ∗ (∃ W, owes (c : Thread nD τ) 0 W)
      ∗ ((xM.view.loc (c : Thread nD τ) ↦{fullShare} xv m ρ c) ∗ (wqM.view.loc (c : Thread nD τ) ↦{fullShare} wqv m ρ c)
      ∗ (woM.view.loc (c : Thread nD τ) ↦{fullShare} wov m ρ c) ∗ (outM.view.loc (c : Thread nD τ) ↦{fullShare} outAt m ρ c))) := by
  have hS : XS m ρ c 21 21 21 ⊢ iprop((bigSep Finset.univ fun n => sendPay m ρ c n) ∗ bigSep Finset.univ fun n => semVal (sendCell c n) 0) := by
    rw [← bigSep_sep']
    exact bigSep_mono fun n _ => show xs m ρ c 21 21 21 n ⊢ _ by unfold xs; rw [if_pos n.isLt]
  have hR : XR m ρ c 21 ⊢ iprop((bigSep Finset.univ fun n => recvPay m ρ c n) ∗ bigSep Finset.univ fun n => semVal (recvCell c n) 0) := by
    rw [← bigSep_sep']
    exact bigSep_mono fun n _ => show xr m ρ c 21 n ⊢ _ by unfold xr; rw [if_pos n.isLt]
  unfold Done Φ₁ scr lsem kvPt owesE
  rw [owS_end]
  iintro ⟨-, HG, Hz, HK, HV, HO, -, HX, HR⟩
  ihave HS := hS $$ HX
  ihave HR := hR $$ HR
  icases HS with ⟨Hs, HzS⟩
  icases HR with ⟨Hr, HzR⟩
  ihave HC := (comm_out m ρ c) $$ [Hs Hr]
  · isplitl [Hs] <;> iassumption
  ihave HK := (ring_out kM kbM (lS false) c (ka m ρ c) (View.set_whole _) (View.set_whole _)) $$ HK
  ihave HV := (ring_out vM vbM (lS true) c (va m ρ c) (View.set_whole _) (View.set_whole _)) $$ HV
  icases HC with ⟨Ho, Hl⟩
  icases HK with ⟨Hkb, Hk, HlK⟩
  icases HV with ⟨Hvb, Hv, HlV⟩
  isplitr [HO HG]
  · isplitl [Ho Hl Hkb Hvb]
    · isplitl [Ho]; · iexact Ho
      isplitl [Hl]; · iexact Hl
      isplitl [Hkb] <;> iassumption
    isplitl [HlK HlV HzS HzR]
    · isplitl [HlK HlV]
      · isplitl [HlK] <;> iassumption
      isplitl [HzS] <;> iassumption
    isplitl [Hz]; · iexact Hz
    isplitl [Hk] <;> iassumption
  isplitl [HO]; · iexact HO
  iexact HG

/-! ## The body obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m ρ c ∗ (dats m ρ 0 c).owesAt () t₀.succ
    ∗ stg c cc0_stg0_0 (xv m ρ c) ∗ stg c cc0_stg1_0 (wqv m ρ c) ∗ stg c cc0_stg2_0 (wov m ρ c) ∗ stg c cc0_stg3_0 (outAt m ρ c))

theorem done_post (K : Dev nD × CI → ℕ) (c : Dev nD) : Done m ρ K c ⊢ bodyPost m ρ c := by
  refine BIBase.Entails.trans (done_elim m ρ K c) ?_
  unfold bodyPost Dat.owesAt Pipeline.owesWithin
  iintro ⟨HΦ, ⟨%W, HO⟩, Hx, Hq, Hw, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout

theorem sound_body (c : Dev nD) : bodyPre m ρ c ⊢ W c (app (cc0__attn_body (F := F))) (fun _ => bodyPost m ρ c) := by
  have e0 (d) : (dats m ρ 0 c).before (0 : Fin 4) t₀ d = xv m ρ c := by unfold Dat.before; rw [if_pos (fetch0_0 t₀)]; rfl
  have e1 (d) : (dats m ρ 0 c).before (1 : Fin 4) t₀ d = wqv m ρ c := by unfold Dat.before; rw [if_pos (fetch0_1 t₀)]; rfl
  have e2 (d) : (dats m ρ 0 c).before (2 : Fin 4) t₀ d = wov m ρ c := by unfold Dat.before; rw [if_pos (fetch0_2 t₀)]; rfl
  unfold bodyPre Φ₀ start G'
  unfold Dat.owesAt Pipeline.owesWithin
  iintro ⟨⟨⟨⟨%K, HG⟩, Hc, Hlv, Hkv⟩, Hscr⟩, ⟨%W', -, HO⟩, ⟨%d0, %f0, %h0, Hx⟩, ⟨%d1, %f1, %h1, Hq⟩, ⟨%d2, %f2, %h2, Hw⟩, ⟨%d3, %f3, %h3, Hout⟩⟩
  obtain rfl := h0.trans (e0 d0)
  obtain rfl := h1.trans (e1 d1)
  obtain rfl := h2.trans (e2 d2)
  iapply (body (m := m) (ρ := ρ) (K := K) (c := c) (Q := fun _ => bodyPost m ρ c) (done_post m ρ K c))
  iapply (pre_intro m ρ K c)
  unfold SG0
  isplitl [HG]; · iexact HG
  isplitl [Hc]; · iexact Hc
  isplitl [Hlv]; · iexact Hlv
  isplitl [Hkv]; · iexact Hkv
  isplitl [Hscr]; · iexact Hscr
  isplitl [Hx Hq Hw Hout]
  · isplitl [Hx]; · iexact Hx
    isplitl [Hq]; · iexact Hq
    isplitl [Hw]; · iexact Hw
    iexists f3; iexact Hout
  iexists W'; iexact HO

set_option maxRecDepth 20000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ W c (app (cc0__attn_body (F := F))) (fun _ => bodyPost m ρ c)
  exact sound_body m ρ c

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hkv, Hlev, Hcr, -, HG⟩
  ihave Hc := (creds (F := F) c) $$ Hcr
  imodintro
  unfold start kvPt
  isplitl
  · isplitl [HG]; · iexact HG
    isplitl [Hc]; · iexact Hc
    isplitl [Hlev]; · iexact Hlev
    iexact Hkv
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ kvPt m ρ c) ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scr
  iintro ⟨Hr, Hz, HzB, Hkv⟩
  isplitl [HzB Hkv]
  · isplitl [HzB] <;> iassumption
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What a final state holds: the windows' arrays as computed, the keys and values as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

theorem kv_read (c : Dev nD) (s' : Phys nD τ sig (Elt F)) :
    iprop((unscopedSems0 c ∗ kvPt m ρ c) ∗ emp ∗ SI s')
      ⊢ (|={Set.univ}=> iprop(⌜(∀ sm : SemLoc sig, sm.isScoped .tc = false → s'.mem.sem ((c.tc : Thread nD τ), sm) = 0)
        ∧ s'.mem.mem ((c : Thread nD τ).loc main_arg2) = m ((c : Thread nD τ).loc main_arg2) ∧ s'.mem.mem ((c : Thread nD τ).loc main_arg3) = m ((c : Thread nD τ).loc main_arg3)⌝ ∗ SI s') : sProp 𝕄) := by
  unfold kvPt
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hs, HSI⟩
  · isplitl [Hu] <;> iassumption
  imodintro
  isplitr [HSI]
  · ipureintro
    exact ⟨hs, Buf.eq_of_forall_mem_univ hk, Buf.eq_of_forall_mem_univ hv⟩
  iexact HSI

omit [FloatOps F] [Named F] in
theorem ownU_split (a : UR sig nD τ) (b : UB) :
    (ownU (a, (b, (1 : Counters))) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

set_option maxRecDepth 8000 in
/-- From any memory with zero counters every fair execution of the four kernels terminates, and every final state has each
    device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ kvPt m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := kv_read m ρ)
    (hQ := fun _ h hs => ⟨fun c => ⟨(h c).1, (h c).2.2.2⟩, sem_eq_zero hs fun c => (h c).2.2.1⟩)

theorem finalA_x (c : Dev nD) : finalA m ρ c (0 : Fin 4) = m ((c : Thread nD τ).loc main_arg0) := (dats (F := F) m ρ 0 c).arrAt_in (0 : Fin 4) rfl _
theorem finalA_wq (c : Dev nD) : finalA m ρ c (1 : Fin 4) = m ((c : Thread nD τ).loc main_arg1) := (dats (F := F) m ρ 0 c).arrAt_in (1 : Fin 4) rfl _
theorem finalA_wo (c : Dev nD) : finalA m ρ c (2 : Fin 4) = m ((c : Thread nD τ).loc main_arg4) := (dats (F := F) m ρ 0 c).arrAt_in (2 : Fin 4) rfl _
/-- The result array's one block is what the body left in its staging buffer. -/
theorem finalA_out (c : Dev nD) : (win0_3.blk (0 : Fin 1)).view.read (Elt F) (finalA m ρ c (3 : Fin 4)) = outAt m ρ c := by
  unfold finalA
  rw [show cfg0.N = ((0 : Fin 1) : Fin cfg0.N).val + 1 from rfl, (dats m ρ 0 c).arrAt_succ (3 : Fin 4) (0 : Fin 1)]
  rw [if_pos (flush0_3 (0 : Fin 1))]
  exact View.read_write_univ _ _

/-- The frame: every argument array as launched and every counter at zero. -/
theorem frame_run : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono
    (fun _ h => ⟨fun c => ⟨((h.1 c).1 (0 : Fin 4)).trans (finalA_x m ρ c), ((h.1 c).1 (1 : Fin 4)).trans (finalA_wq m ρ c),
      (h.1 c).2.1, (h.1 c).2.2, ((h.1 c).1 (2 : Fin 4)).trans (finalA_wo m ρ c)⟩, h.2⟩)
    (run_main m ρ)

end Cert.KProof

end
-- ==== Proof.Heads.lean ====
/- One head on one device, element by element.

   The eight heads are computed by the same operations, each on its own 128 columns of the queries. Here
   those operations are written once, for a head given by its first column, and read at an index over the
   extended reals: an attention score, the sum of exponentials of a row of scores, the partial output. -/
module

public import proofs.«01_k».proof.Proof.Contents
public import Idealize.ShloMosaic.Lib.Pointwise

@[expose] public section

noncomputable section

namespace Cert.KProof

open Cert.KernelIdeal Cert.KernelIdeal.Gen

open Idealize.ShloMosaic
open Idealize.ShloMosaic.TcCoe

section Ops
variable {F : FTy → Type} [FloatOps F] [Named F]
variable (h : Fin 8) (q : FVec F S256x1024 .bf16) (k v : Vec F S1x4096x128 .f32)

/-- The 128 columns of a head lie within the queries. -/
theorem head_slices (h : Fin 8) : S256x1024.Slices ![0, 128 * h.val] S256x128 := by revert h; decide

/-- The exponentials of a head's scores. -/
def headE : FVec F S256x4096 .f32 :=
  exp (matmul dot_S256x128_S4096x128_S256x4096_1_1_0_0_n_n none (extractStridedSlice S256x128 ![0, 128 * h.val] q (head_slices h))
    (truncf .bf16 (shapeCast S4096x128 k shapeCasts_S1x4096x128_S4096x128) bitsLt_bf16_f32) (constant S256x4096 .f32 0x00000000#32))

/-- Their sums, a query each. -/
def headL : FVec F S256x1 .f32 :=
  addf (broadcast S256x1 (Scalar.ofBits .f32 0x00000000#32))
    (shapeCast S256x1 (multiReduction .add [1] S256 (headE h q k) 0x00000000#32 reduces_S256x4096_S256 (.inl rfl) rfl) shapeCasts_S256_S256x1)

/-- The partial output of a head. -/
def headO : FVec F S1x1x256x128 .bf16 :=
  shapeCast S1x1x256x128 (truncf .bf16 (divf
    (addf (broadcast S256x128 (Scalar.ofBits .f32 0x00000000#32))
      (matmul dot_S256x4096_S4096x128_S256x128_1_0_0_1_n_n none (truncf .bf16 (headE h q k) bitsLt_bf16_f32)
        (truncf .bf16 (shapeCast S4096x128 v shapeCasts_S1x4096x128_S4096x128) bitsLt_bf16_f32) (constant S256x128 .f32 0x00000000#32)))
    (broadcastTo S256x128 (headL h q k) broadcasts_S256x1_S256x128)) bitsLt_bf16_f32) shapeCasts_S256x128_S1x1x256x128

/-- The logarithm of the sums of a head. -/
def headG : FVec F S1x1x256 .f32 :=
  shapeCast S1x1x256 (transpose S1x256 [1, 0] (log (headL h q k)) transposes_S256x1_p1_0_S1x256) shapeCasts_S1x256_S1x1x256

variable (m : (ℓ : Loc nD τ sig) → Buf (Elt F) ℓ) (ρ : Dev nD → PrngReg)

/-- What a device stores of a head is that head's operations on its queries, keys and values. -/
theorem oh_eq (c : Dev nD) : oh m ρ c h = headO h (qb m ρ c) (kh m ρ c h) (vh m ρ c h) :=
  match h with
  | 0 => rfl | 1 => rfl | 2 => rfl | 3 => rfl | 4 => rfl | 5 => rfl | 6 => rfl | 7 => rfl
theorem lh_eq (c : Dev nD) : lh m ρ c h = headG h (qb m ρ c) (kh m ρ c h) :=
  match h with
  | 0 => rfl | 1 => rfl | 2 => rfl | 3 => rfl | 4 => rfl | 5 => rfl | 6 => rfl | 7 => rfl
end Ops

section Values
variable (h : Fin 8) (q : FVec Ideal S256x1024 .bf16) (k v : Vec Ideal S1x4096x128 .f32)

/-- Column `d` of head `h`. -/
abbrev hcol (h : Fin 8) (d : Fin 128) : Fin 1024 := ⟨128 * h.val + d.val, by omega⟩

/-- The score of query `i` and key `j` of a head. -/
def score (i : Fin 256) (j : Fin 4096) : EReal := ∑ d : Fin 128, (q (ix2 i (hcol h d)) : EReal) * k (ix3 0 j d)

theorem headE_apply (i : Fin 256) (j : Fin 4096) : headE h q k (ix2 i j) = Ideal.exp (score h q k i j) := by
  pointwise [headE, score]

theorem headL_apply (i : Fin 256) : headL h q k (ix2 i 0) = ∑ j, Ideal.exp (score h q k i j) := by
  pointwise [headL, headE_apply]

theorem headO_apply (i : Fin 256) (d : Fin 128) : headO h q k v (ix4 0 0 i d)
    = Ideal.div (∑ j, Ideal.exp (score h q k i j) * v (ix3 0 j d)) (∑ j, Ideal.exp (score h q k i j)) := by
  pointwise [headO, headE_apply, headL_apply]

theorem headG_apply (i : Fin 256) : headG h q k (ix3 0 0 i) = Ideal.log (∑ j, Ideal.exp (score h q k i j)) := by
  pointwise [headG, headL_apply]

theorem pay2_apply (x : Vec Ideal S256x1024 .f32) (w : Vec Ideal S1024x1024 .f32) (i : Fin 256) (n : Fin 1024) :
    k0_pay2 (F := Ideal) x w (ix2 i n) = (∑ k : Fin 1024, (x (ix2 i k) : EReal) * w (ix2 k n)) * (((Real.sqrt 128)⁻¹ : ℝ) : EReal) := by
  pointwise [k0_pay2]
  exact congrArg (_ * ·) (IdealRules.named_const.ideal_named_scalar (φ := .f32) κ "inv_sqrt_dh" 0x3DB504F3#32 _ rfl)
end Values

end Cert.KProof
end
-- ==== Proof.Merge.lean ====
/- The merge of the four partial results, element by element.

   The kernel merges the heads in two groups of four, by the same operations. A partial result's weight is
   the exponential of its log-sum less the largest, over the sum of the four; a product with a 0/1 matrix
   lays each head's weight out over the 128 columns of the head; the weighted outputs are added and taken
   through the rows of the output projection that belong to the head. Here this is written once for both
   groups and read at an index over the extended reals. -/
module

public import proofs.«01_k».proof.Proof.Body
public import Idealize.ShloMosaic.Lib.Pointwise

@[expose] public section

noncomputable section

namespace Cert.KProof

open Cert.KernelIdeal Cert.KernelIdeal.Gen

open Idealize.ShloMosaic
open Idealize.ShloMosaic.TcCoe

section Ops
variable {F : FTy → Type} [FloatOps F] [Named F]
variable (g : Fin 2) (L : Fin 4 → Vec F S1x4x256 .f32) (O : Fin 4 → Fin 4 → Vec F S1x1x256x128 .bf16) (w : Fin 4 → Vec F S128x1024 .f32)

/-- The head number of a column, as the kernel computes it: a signed division rounded down. -/
def colHead : IVec S4x1024 32 :=
  have col : IVec S4x1024 32 := iota .tc S4x1024 32 [1] iota_S4x1024_d1_w32
  have quo : IVec S4x1024 32 := divsi col (broadcast S4x1024 128#32)
  select (andi (cmpi .ne
      (subi (extui 32 (cmpi .sgt col (broadcast S4x1024 0#32)) natLt_1_32) (extui 32 (cmpi .slt col (broadcast S4x1024 0#32)) natLt_1_32))
      (broadcast S4x1024 (Scalar.subi (Scalar.extui (Scalar.cmpi .sgt 128#32 0#32)) (Scalar.extui (Scalar.cmpi .slt 128#32 0#32)))))
    (cmpi .ne (remsi col (broadcast S4x1024 128#32)) (broadcast S4x1024 0#32)))
    (subi quo (broadcast S4x1024 1#32)) quo

/-- The 0/1 matrix of group `g`: one where the column belongs to the row's head. -/
def maskG : FVec F S4x1024 .bf16 :=
  truncf .bf16 (sitofp .f32 (extui 32 (cmpi .eq colHead
    (addi (iota .tc S4x1024 32 [0] iota_S4x1024_d0_w32) (broadcast S4x1024 (if g = 0 then 0#32 else 4#32)))) natLt_1_32)) bitsLt_bf16_f32

/-- A slot's log-sums, their maximum over the slots, the exponential of the difference, and its sum. -/
def lgs (s : Fin 4) : FVec F S4x256 .f32 := shapeCast S4x256 (L s) shapeCasts_S1x4x256_S4x256
def lmax : FVec F S4x256 .f32 := maximumf (maximumf (maximumf (lgs L 0) (lgs L 1)) (lgs L 2)) (lgs L 3)
def wexp (s : Fin 4) : FVec F S4x256 .f32 := exp (subf (lgs L s) (lmax L))
def wsum : FVec F S4x256 .f32 := addf (addf (addf (wexp L 0) (wexp L 1)) (wexp L 2)) (wexp L 3)

/-- A slot's weights, laid out over the columns. -/
def wlay (s : Fin 4) : FVec F S256x1024 .f32 :=
  matmul dot_S4x256_S4x1024_S256x1024_0_0_1_1_n_n none (truncf .bf16 (divf (wexp L s) (wsum L)) bitsLt_bf16_f32) (maskG g)
    (constant S256x1024 .f32 0x00000000#32)

theorem group_slices (g : Fin 2) (r : Fin 4) : S256x1024.Slices ![0, 128 * (4 * g.val + r.val)] S256x128 := by revert g r; decide

/-- A slot's part of head `r` of the group. -/
def wpart (s r : Fin 4) : FVec F S256x128 .f32 :=
  mulf (extf .f32 (shapeCast S256x128 (O s r) shapeCasts_S1x1x256x128_S256x128) bitsLt_bf16_f32)
    (extractStridedSlice S256x128 ![0, 128 * (4 * g.val + r.val)] (wlay g L s) (group_slices g r))

/-- Head `r` of the group, merged. -/
def merged (r : Fin 4) : FVec F S256x128 .f32 :=
  addf (addf (addf (addf (broadcast S256x128 (Scalar.ofBits .f32 0x00000000#32)) (wpart g L O 0 r)) (wpart g L O 1 r)) (wpart g L O 2 r)) (wpart g L O 3 r)

/-- A merged head through its rows of the output projection. -/
def proj (x : FVec F S256x128 .f32) (w : Vec F S128x1024 .f32) : FVec F S256x1024 .f32 :=
  matmul dot_S256x128_S128x1024_S256x1024_1_0_0_1_n_n none (truncf .bf16 x bitsLt_bf16_f32)
    (truncf .bf16 (shapeCast S128x1024 w shapeCasts_S128x1024_S128x1024) bitsLt_bf16_f32) (constant S256x1024 .f32 0x00000000#32)

/-- The first three heads of a group. -/
def three : FVec F S256x1024 .f32 :=
  addf (addf (addf (broadcast S256x1024 (Scalar.ofBits .f32 0x00000000#32)) (proj (merged g L O 0) (w 0))) (proj (merged g L O 1) (w 1)))
    (proj (merged g L O 2) (w 2))

theorem a826_eq : a826 L O w = addf (broadcast S256x1024 (Scalar.ofBits .f32 0x00000000#32)) (addf (three 0 L O w) (proj (merged 0 L O 3) (w 3))) := rfl
theorem b1365_eq : b1365 L O w = three 1 L O w := rfl
theorem b1346_eq : b1346 L O = merged 1 L O 3 := rfl

end Ops

section Values
variable (g : Fin 2) (L : Fin 4 → Vec Ideal S1x4x256 .f32) (O : Fin 4 → Fin 4 → Vec Ideal S1x1x256x128 .bf16) (w : Fin 4 → Vec Ideal S128x1024 .f32)

/-- The kernel's division rounded down, on the words of the columns. -/
theorem word_div : ∀ n : Fin 1024,
    Scalar.select (IntOp.andi (IntOp.cmpi .ne
        (IntOp.subi ((IntOp.cmpi .sgt (BitVec.ofNat 32 n.val) 0#32).setWidth 32) ((IntOp.cmpi .slt (BitVec.ofNat 32 n.val) 0#32).setWidth 32)) 1#32)
      (IntOp.cmpi .ne (IntOp.remsi .vector (BitVec.ofNat 32 n.val) 128#32) 0#32))
      (IntOp.subi (IntOp.divsi .vector (BitVec.ofNat 32 n.val) 128#32) 1#32) (IntOp.divsi .vector (BitVec.ofNat 32 n.val) 128#32) = BitVec.ofNat 32 (n.val / 128) := by
  decide +kernel

theorem colHead_apply (r : Fin 4) (n : Fin 1024) : colHead (ix2 r n) = BitVec.ofNat 32 (n.val / 128) := by
  rw [← word_div n]
  pointwise [colHead]
  rfl

/-- The comparison of a column's head with a row's. -/
theorem word_eq : ∀ (g : Fin 2) (r : Fin 4) (k : Fin 8),
    (IntOp.cmpi .eq (BitVec.ofNat 32 k.val) (IntOp.addi (BitVec.ofNat 32 r.val) (if g = 0 then 0#32 else 4#32))).setWidth 32
      = if k.val = 4 * g.val + r.val then 1#32 else 0#32 := by
  decide +kernel

theorem maskG_apply (r : Fin 4) (n : Fin 1024) : maskG (F := Ideal) g (ix2 r n) = if n.val / 128 = 4 * g.val + r.val then 1 else 0 := by
  pointwise [maskG, colHead_apply]
  have h := word_eq g r ⟨n.val / 128, by omega⟩
  dsimp only at h
  rw [h]
  split_ifs
  · exact (congrArg (fun x : ℝ => (x : EReal)) (by norm_num : (((1#32 : BitVec 32).toInt : ℤ) : ℝ) = 1)).trans EReal.coe_one
  · exact (congrArg (fun x : ℝ => (x : EReal)) (by norm_num : (((0#32 : BitVec 32).toInt : ℤ) : ℝ) = 0)).trans EReal.coe_zero

theorem lgs_apply (s r : Fin 4) (i : Fin 256) : lgs L s (ix2 r i) = L s (ix3 0 r i) := by
  pointwise [lgs]

/-- The weight of the `s`-th of four log-sums. -/
def wt (l : Fin 4 → EReal) (s : Fin 4) : EReal :=
  have M : EReal := max (max (max (l 0) (l 1)) (l 2)) (l 3)
  Ideal.div (Ideal.exp (l s - M)) (Ideal.exp (l 0 - M) + Ideal.exp (l 1 - M) + Ideal.exp (l 2 - M) + Ideal.exp (l 3 - M))

/-- The weight of slot `s` for query `i` of head `r` of the group. -/
def weight (s r : Fin 4) (i : Fin 256) : EReal := wt (fun s => L s (ix3 0 r i)) s

theorem weight_apply (s r : Fin 4) (i : Fin 256) : divf (wexp L s) (wsum L) (ix2 r i) = weight L s r i := by
  pointwise [wexp, wsum, lmax, lgs_apply, weight, wt]

theorem wlay_apply (s r : Fin 4) (i : Fin 256) (d : Fin 128) :
    wlay g L s (ix2 i ⟨128 * (4 * g.val + r.val) + d.val, by omega⟩) = weight L s r i := by
  pointwise [wlay, weight_apply, maskG_apply]
  rw [Finset.sum_eq_single r]
  · rw [if_pos (by omega), mul_one]
  · intro x _ hx
    rw [if_neg (fun e => hx (Fin.ext (by omega))), mul_zero]
  · exact fun e => absurd (Finset.mem_univ r) e

theorem merged_apply (r : Fin 4) (i : Fin 256) (d : Fin 128) :
    merged g L O r (ix2 i d) = ∑ s : Fin 4, (O s r (ix4 0 0 i d) : EReal) * weight L s r i := by
  rw [Fin.sum_univ_four]
  pointwise [merged, wpart, wlay_apply]

theorem proj_apply (x : FVec Ideal S256x128 .f32) (w : Vec Ideal S128x1024 .f32) (i : Fin 256) (n : Fin 1024) :
    proj x w (ix2 i n) = ∑ d : Fin 128, (x (ix2 i d) : EReal) * w (ix2 d n) := by
  pointwise [proj]

end Values

end Cert.KProof
end
-- ==== Proof.KernelValue.lean ====
/- The kernel's result, element by element. -/
module

public import proofs.«01_k».proof.Proof.Heads
public import proofs.«01_k».proof.Proof.Merge

@[expose] public section

noncomputable section

namespace Cert.KProof

open Cert.KernelIdeal Cert.KernelIdeal.Gen

open Idealize.ShloMosaic
open Idealize.ShloMosaic.TcCoe

section Loads
variable {F : FTy → Type} [FloatOps F] [Named F]
variable (m : (ℓ : Loc nD τ sig) → Buf (Elt F) ℓ) (ρ : Dev nD → PrngReg) (c : Dev nD)

theorem mo_apply (s : Fin 4) (h : Fin 8) (i : Fin 256) (d : Fin 128) :
    mo m ρ c s h (ix4 0 0 i d) = oh m ρ (bk c s) h (ix4 0 0 i d) := by
  have e : (oR s h).emb (ix4 0 0 i d : S1x1x256x128.Idx) = (ix4 s h i d : S4x8x256x128.Idx) :=
    funext fun a => Fin.ext (by
      fin_cases a
      · show s.val + 1 * 0 = s.val; omega
      · show h.val + 1 * 0 = h.val; omega
      · show 0 + 1 * i.val = i.val; omega
      · show 0 + 1 * d.val = d.val; omega)
  have e' : (fun a => match a with | ⟨0, _⟩ => (0 : Fin 1) | ⟨1, _⟩ => (0 : Fin 1) | ⟨2, _⟩ => i | ⟨3, _⟩ => d : S1x1x256x128.Idx) = ix4 0 0 i d :=
    funext fun a => by fin_cases a <;> rfl
  exact (congrArg (OC m ρ c) e).trans (congrArg (oh m ρ (bk c s) h) e')

theorem ml_apply (s : Fin 4) (b : Fin 2) (r : Fin 4) (i : Fin 256) :
    ml m ρ c s b (ix3 0 r i) = lh m ρ (bk c s) ⟨4 * b.val + r.val, by omega⟩ (ix3 0 0 i) := by
  have e : (lQ s b).emb (ix3 0 r i : S1x4x256.Idx) = (ix3 s ⟨4 * b.val + r.val, by omega⟩ i : S4x8x256.Idx) :=
    funext fun a => Fin.ext (by
      fin_cases a
      · show s.val + 1 * 0 = s.val; omega
      · show 4 * b.val + 1 * r.val = 4 * b.val + r.val; omega
      · show 0 + 1 * i.val = i.val; omega)
  have e' : (fun a => match a with | ⟨0, _⟩ => (0 : Fin 1) | ⟨1, _⟩ => (0 : Fin 1) | ⟨2, _⟩ => i : S1x1x256.Idx) = ix3 0 0 i :=
    funext fun a => by fin_cases a <;> rfl
  exact (congrArg (LC m ρ c) e).trans (congrArg (lh m ρ (bk c s) _) e')

theorem wr_apply (h : Fin 8) (d : Fin 128) (n : Fin 1024) :
    wr m ρ c h (ix2 d n) = wov m ρ c (ix2 (hcol h d) n) := by
  have e : (Rect.unit (s := S1024x1024) ![128 * h.val, 0] S128x1024.size (by revert h; decide)).emb (ix2 d n : S128x1024.Idx)
      = (ix2 (hcol h d) n : S1024x1024.Idx) := funext fun a => Fin.ext (by
      fin_cases a
      · show 128 * h.val + 1 * d.val = 128 * h.val + d.val; omega
      · show 0 + 1 * n.val = n.val; omega)
  exact congrArg (wov m ρ c) e
end Loads

section Value
variable (m : (ℓ : Loc nD τ sig) → Buf (Elt Ideal) ℓ) (ρ : Dev nD → PrngReg) (c : Dev nD)

/-- Element `(i, d)` of head `h`, merged over the slots of device `c`. -/
def headVal (h : Fin 8) (i : Fin 256) (d : Fin 128) : EReal :=
  ∑ s : Fin 4, (oh m ρ (bk c s) h (ix4 0 0 i d) : EReal) * wt (fun s => lh m ρ (bk c s) h (ix3 0 0 i)) s

theorem merged_lo (r : Fin 4) (i : Fin 256) (d : Fin 128) :
    merged 0 (fun s => ml m ρ c s 0) (fun s i => mo m ρ c s (Fin.castLE (by decide) i)) r (ix2 i d)
      = headVal m ρ c (Fin.castLE (by decide) r) i d := by
  rw [merged_apply, headVal]
  refine Finset.sum_congr rfl fun s _ => ?_
  rw [mo_apply, weight]
  refine congrArg (_ * ·) (congrArg (fun l => wt l s) (funext fun s => (ml_apply m ρ c s 0 r i).trans ?_))
  exact congrArg (fun h => lh m ρ (bk c s) h (ix3 0 0 i)) (Fin.ext (by simp))

theorem merged_hi (r : Fin 4) (i : Fin 256) (d : Fin 128) :
    merged 1 (fun s => ml m ρ c s 1) (fun s i => mo m ρ c s (Fin.natAdd 4 i)) r (ix2 i d)
      = headVal m ρ c (Fin.natAdd 4 r) i d := by
  rw [merged_apply, headVal]
  refine Finset.sum_congr rfl fun s _ => ?_
  rw [mo_apply, weight]
  refine congrArg (_ * ·) (congrArg (fun l => wt l s) (funext fun s => (ml_apply m ρ c s 1 r i).trans ?_))
  exact congrArg (fun h => lh m ρ (bk c s) h (ix3 0 0 i)) (Fin.ext (by simp [Nat.add_comm]))

/-- A merged head through its rows of the output projection. -/
theorem proj_lo (r : Fin 4) (i : Fin 256) (n : Fin 1024) (w : Vec Ideal S128x1024 .f32) (hw : w = wr m ρ c (Fin.castLE (by decide) r)) :
    proj (merged 0 (fun s => ml m ρ c s 0) (fun s i => mo m ρ c s (Fin.castLE (by decide) i)) r) w (ix2 i n)
      = ∑ d, headVal m ρ c (Fin.castLE (by decide) r) i d * wov m ρ c (ix2 (hcol (Fin.castLE (by decide) r) d) n) := by
  subst hw
  rw [proj_apply]
  exact Finset.sum_congr rfl fun d _ => by rw [merged_lo, wr_apply]
theorem proj_hi (r : Fin 4) (i : Fin 256) (n : Fin 1024) (w : Vec Ideal S128x1024 .f32) (hw : w = wr m ρ c (Fin.natAdd 4 r)) :
    proj (merged 1 (fun s => ml m ρ c s 1) (fun s i => mo m ρ c s (Fin.natAdd 4 i)) r) w (ix2 i n)
      = ∑ d, headVal m ρ c (Fin.natAdd 4 r) i d * wov m ρ c (ix2 (hcol (Fin.natAdd 4 r) d) n) := by
  subst hw
  rw [proj_apply]
  exact Finset.sum_congr rfl fun d _ => by rw [merged_hi, wr_apply]

/-- The result: the merged heads, laid side by side, times the output projection. -/
theorem outAt_apply (i : Fin 256) (n : Fin 1024) :
    outAt m ρ c (ix2 i n) = ∑ h : Fin 8, ∑ d : Fin 128, headVal m ρ c h i d * wov m ρ c (ix2 (hcol h d) n) := by
  have e : outAt m ρ c = addf
      (a826 (fun s => ml m ρ c s 0) (fun s i => mo m ρ c s (Fin.castLE (by decide) i)) (fun i => wr m ρ c (Fin.castLE (by decide) i)))
      (addf (b1365 (fun s => ml m ρ c s 1) (fun s i => mo m ρ c s (Fin.natAdd 4 i)) (fun i => wr m ρ c (Fin.natAdd 4 i)))
        (proj (b1346 (fun s => ml m ρ c s 1) (fun s i => mo m ρ c s (Fin.natAdd 4 i))) (wr m ρ c 7))) := rfl
  rw [e, a826_eq, b1365_eq, b1346_eq]
  pointwise [three]
  rw [proj_lo m ρ c 0 i n _ rfl, proj_lo m ρ c 1 i n _ rfl, proj_lo m ρ c 2 i n _ rfl, proj_lo m ρ c 3 i n _ rfl,
    proj_hi m ρ c 0 i n _ rfl, proj_hi m ρ c 1 i n _ rfl, proj_hi m ρ c 2 i n _ rfl, proj_hi m ρ c 3 i n (wr m ρ c 7) rfl, Fin.sum_univ_eight]
  simp only [add_assoc]
  rfl
end Value

end Cert.KProof
end
-- ==== Proof.Softmax.lean ====
/- Softmax attention in pieces, over the extended reals.

   The scores are real; the values are any extended reals. An output cut into four pieces, each piece divided
   by its own sum of exponentials and then weighted by its share of the whole, is the output divided by the
   whole sum; and subtracting one number from all the scores changes neither. -/
module

public import proofs.«01_k».proof.Proof.Merge

@[expose] public section

noncomputable section

namespace Cert.KProof

open Idealize.ShloMosaic

/-- A finite sum of reals, as an extended real. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a nonnegative real comes out of a finite sum. -/
theorem sum_mul_coe {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- A maximum of two reals. -/
theorem coe_max' (a b : ℝ) : max (a : EReal) (b : EReal) = ((max a b : ℝ) : EReal) :=
  (EReal.coe_strictMono.monotone.map_max).symm

/-- The weight of a piece is its share of the whole sum. -/
theorem wt_log (l : Fin 4 → ℝ) (hl : ∀ s, 0 < l s) (s : Fin 4) :
    wt (fun s => Ideal.log (l s : EReal)) s = ((l s / ∑ t, l t : ℝ) : EReal) := by
  have hlog : (fun s => Ideal.log (l s : EReal)) = fun s => ((Real.log (l s) : ℝ) : EReal) :=
    funext fun s => by rw [Ideal.log_coe, if_neg (not_le.2 (hl s))]
  have hexp : ∀ (t : Fin 4) (M : ℝ), Ideal.exp ((Real.log (l t) : ℝ) - (M : EReal) : EReal) = ((l t * Real.exp (-M) : ℝ) : EReal) := fun t M => by
    rw [← EReal.coe_sub, Ideal.exp_coe, sub_eq_add_neg, Real.exp_add, Real.exp_log (hl t)]
  have hpos : 0 < ∑ t, l t := Finset.sum_pos (fun t _ => hl t) ⟨0, Finset.mem_univ _⟩
  rw [hlog]
  simp only [wt, coe_max', hexp, ← EReal.coe_add]
  rw [← add_mul, ← add_mul, ← add_mul, ← Fin.sum_univ_four l, Ideal.div_coe (mul_pos hpos (Real.exp_pos _)).ne', ← EReal.coe_mul]
  refine congrArg _ ?_
  field_simp

/-- A piece's output, divided by its own sum and weighted. -/
theorem weighted_piece (A : EReal) {l L : ℝ} (hl : 0 < l) : Ideal.div A (l : EReal) * ((l / L : ℝ) : EReal) = A * ((1 / L : ℝ) : EReal) := by
  rw [Ideal.div_coe hl.ne', mul_assoc, ← EReal.coe_mul]
  refine congrArg (fun x : ℝ => A * (x : EReal)) ?_
  field_simp

variable {J : Type} [Fintype J] [Nonempty J]

/-- The four pieces, in any order of the pieces, against the whole with `M` subtracted from its scores. -/
theorem softmax_pieces (a : Fin 4 → J → ℝ) (V : Fin 4 → J → EReal) (σ : Fin 4 ≃ Fin 4) (M : ℝ) :
    ∑ s, Ideal.div (∑ j, Ideal.exp (a (σ s) j : EReal) * V (σ s) j) (∑ j, Ideal.exp (a (σ s) j : EReal))
        * wt (fun s => Ideal.log (∑ j, Ideal.exp (a (σ s) j : EReal))) s
      = Ideal.div (∑ b, ∑ j, V b j * Ideal.exp ((a b j : EReal) - (M : EReal))) (∑ b, ∑ j, Ideal.exp ((a b j : EReal) - (M : EReal))) := by
  let l : Fin 4 → ℝ := fun b => ∑ j, Real.exp (a b j)
  have hl : ∀ b, 0 < l b := fun b => Finset.sum_pos (fun j _ => Real.exp_pos _) Finset.univ_nonempty
  have hL : 0 < ∑ b, l b := Finset.sum_pos (fun b _ => hl b) ⟨0, Finset.mem_univ _⟩
  have el : ∀ b, ∑ j, Ideal.exp (a b j : EReal) = (l b : EReal) := fun b => (coe_sum' _ _).symm
  have ex : ∀ b j, Ideal.exp ((a b j : EReal) - (M : EReal)) = ((Real.exp (a b j) * Real.exp (-M) : ℝ) : EReal) := fun b j => by
    rw [← EReal.coe_sub, Ideal.exp_coe, sub_eq_add_neg, Real.exp_add]
  have ew : ∀ s, wt (fun s => Ideal.log (l (σ s) : EReal)) s = ((l (σ s) / ∑ b, l b : ℝ) : EReal) := fun s => by
    rw [wt_log (fun s => l (σ s)) (fun s => hl _) s, σ.sum_comp l]
  simp only [el, ew, weighted_piece _ (hl _)]
  rw [sum_mul_coe _ _ (one_div_pos.2 hL).le,
    σ.sum_comp fun b => ∑ j, Ideal.exp (a b j : EReal) * V b j]
  have en : ∑ b, ∑ j, V b j * Ideal.exp ((a b j : EReal) - (M : EReal)) = (∑ b, ∑ j, Ideal.exp (a b j : EReal) * V b j) * (Real.exp (-M) : EReal) := by
    rw [← sum_mul_coe _ _ (Real.exp_pos _).le]
    refine Finset.sum_congr rfl fun b _ => ?_
    rw [← sum_mul_coe _ _ (Real.exp_pos _).le]
    refine Finset.sum_congr rfl fun j _ => ?_
    rw [ex, EReal.coe_mul, Ideal.exp_coe, ← mul_assoc, mul_comm (V b j)]
  have ed : ∑ b, ∑ j, Ideal.exp ((a b j : EReal) - (M : EReal)) = (((∑ b, l b) * Real.exp (-M) : ℝ) : EReal) := by
    rw [Finset.sum_mul, coe_sum']
    refine Finset.sum_congr rfl fun b _ => ?_
    rw [Finset.sum_mul, coe_sum']
    exact Finset.sum_congr rfl fun j _ => ex b j
  rw [en, ed, Ideal.div_coe (mul_pos hL (Real.exp_pos _)).ne', mul_assoc, ← EReal.coe_mul]
  refine congrArg (fun x : ℝ => _ * (x : EReal)) ?_
  have := (Real.exp_pos (-M)).ne'
  have := hL.ne'
  field_simp

end Cert.KProof
end
-- ==== Proof.Ref.lean ====
/- The reference, element by element: softmax attention of the 256 queries over all 16384 keys, and the
   output projection. -/
module

public import proofs.«01_k».proof.Proof.Gen.ReferenceIdeal.Run
public import Idealize.ShloMosaic.Lib.Pointwise

@[expose] public section

noncomputable section

namespace Cert.KProof.Ref

open Cert.ReferenceIdeal Cert.ReferenceIdeal.Gen

open Idealize.ShloMosaic
open Idealize.ShloMosaic.TcCoe

variable (x : FVec Ideal S256x1024 .f32) (wq : FVec Ideal S1024x1024 .f32) (k v : FVec Ideal S16384x8x128 .f32) (wo : FVec Ideal S1024x1024 .f32)

/-- The scores, their row maxima, the exponentials of the differences, the attention output, the result. -/
def sc : FVec Ideal S8x256x16384 .f32 :=
  Host.divf (Host.dotGeneral dot_S256x8x128_S16384x8x128_S8x256x16384_2_2_0_0_1_1 none
      (shapeCast S256x8x128 (Host.dotGeneral dot_S256x1024_S1024x1024_S256x1024_1_0_0_1_n_n none x wq) shapeCasts_S256x1024_S256x8x128) k)
    (broadcastInDim S8x256x16384 ![] bcast_S_S8x256x16384 (Host.sqrt (constant S_ .f32 0x43000000#32)))
def mx : FVec Ideal S8x256 .f32 :=
  Host.reduce FloatOps.maximumf (sc x wq k) (constant S_ .f32 0xFF800000#32) reducesTo_S8x256x16384_S8x256_d2 h_S_
def pr : FVec Ideal S8x256x16384 .f32 :=
  Host.exp (subf (sc x wq k) (broadcastInDim S8x256x16384 ![0, 1, 2] bcast_S8x256x1_S8x256x16384_0_1_2
    (broadcastInDim S8x256x1 ![0, 1] bcast_S8x256_S8x256x1_0_1 (mx x wq k))))
def att : FVec Ideal S256x8x128 .f32 :=
  Host.divf (transpose S256x8x128 [2, 0, 1]
      (Host.dotGeneral dot_S16384x8x128_S8x256x16384_S8x128x256_0_2_2_1_1_0 none v (pr x wq k)) transposes_S8x128x256_S256x8x128_2_0_1)
    (broadcastInDim S256x8x128 ![0, 1, 2] bcast_S256x8x1_S256x8x128_0_1_2
      (transpose S256x8x1 [1, 0, 2] (broadcastInDim S8x256x1 ![0, 1] bcast_S8x256_S8x256x1_0_1
        (Host.reduceAdd (pr x wq k) (constant S_ .f32 0x00000000#32) reducesTo_S8x256x16384_S8x256_d2 h_S_)) transposes_S8x256x1_S256x8x1_1_0_2))
def out : FVec Ideal S256x1024 .f32 :=
  Host.dotGeneral dot_S256x1024_S1024x1024_S256x1024_1_0_0_1_n_n none
    (shapeCast S256x1024 (att x wq k v) shapeCasts_S256x8x128_S256x1024) wo

/-- Column `d` of head `h`. -/
abbrev col (h : Fin 8) (d : Fin 128) : Fin 1024 := ⟨128 * h.val + d.val, by omega⟩

/-- The root that the scores are divided by is √128. -/
theorem sqrt_real : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee]
    rw [← EReal.coe_mul]
    norm_num
  rw [e, Ideal.sqrt_coe, if_neg (by norm_num)]

theorem sc_apply (h : Fin 8) (i : Fin 256) (j : Fin 16384) : sc x wq k (ix3 h i j)
    = (∑ d : Fin 128, (∑ e : Fin 1024, (x (ix2 i e) : EReal) * wq (ix2 e (col h d))) * k (ix3 j h d)) * (((Real.sqrt 128)⁻¹ : ℝ) : EReal) := by
  pointwise [sc]
  rw [sqrt_real, Ideal.div_coe (Real.sqrt_pos.2 (by norm_num)).ne', one_div]
  refine congrArg (· * _) (Finset.sum_congr rfl fun d _ => congrArg (· * _) (Finset.sum_congr rfl fun e _ => ?_))
  exact congrArg (fun n => (x (ix2 i e) : EReal) * wq (ix2 e n)) (Fin.ext (by simp [Nat.mul_comm]))

theorem pr_apply (h : Fin 8) (i : Fin 256) (j : Fin 16384) : pr x wq k (ix3 h i j) = Ideal.exp (sc x wq k (ix3 h i j) - mx x wq k (ix2 h i)) := by
  pointwise [pr]

theorem att_apply (h : Fin 8) (i : Fin 256) (d : Fin 128) : att x wq k v (ix3 i h d)
    = Ideal.div (∑ j : Fin 16384, (v (ix3 j h d) : EReal) * pr x wq k (ix3 h i j)) (∑ j : Fin 16384, pr x wq k (ix3 h i j)) := by
  pointwise [att]

theorem out_apply (i : Fin 256) (n : Fin 1024) : out x wq k v wo (ix2 i n)
    = ∑ h : Fin 8, ∑ d : Fin 128, (att x wq k v (ix3 i h d) : EReal) * wo (ix2 (col h d) n) := by
  pointwise [out]
  rw [← (finProdFinEquiv (m := 8) (n := 128)).sum_comp, Fintype.sum_prod_type]
  refine Finset.sum_congr rfl fun h _ => Finset.sum_congr rfl fun d _ => ?_
  have e : (finProdFinEquiv (h, d) : Fin (8 * 128)) = col h d := Fin.ext (by simp [finProdFinEquiv, Nat.add_comm])
  rw [e]
  have e1 : (⟨(col h d).val / 128, by omega⟩ : Fin 8) = h := Fin.ext (by show (128 * h.val + d.val) / 128 = h.val; omega)
  have e2 : (⟨(col h d).val % 128, by omega⟩ : Fin 128) = d := Fin.ext (by show (128 * h.val + d.val) % 128 = d.val; omega)
  exact congrArg₂ (fun h' d' => (att x wq k v (ix3 i h' d') : EReal) * wo (ix2 (col h d) n)) e1 e2

theorem mx_apply (h : Fin 8) (i : Fin 256) : mx x wq k (ix2 h i) = Finset.univ.fold max ⊥ fun j : Fin 16384 => (sc x wq k (ix3 h i j) : EReal) := by
  pointwise [mx]
  rw [show Ideal.ofBits .f32 0xFF800000#32 = ⊥ by simp [Ideal.ofBits, Ideal.ieee]]

/-- The reference's run ends with this result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.KProof.Ref
end
-- ==== Proof.Equal.lean ====
/- The kernel's result is the reference's.

   The arguments are read as whole arrays: the queries and the projections alike on every device, the keys
   and values a block of 4096 rows on each. Where the queries, the query projection and the keys are finite,
   every score is a real number, the same on both sides, and the merge of the four devices' partial results
   is the softmax over all the keys. -/
module

public import proofs.«01_k».proof.Proof.KernelValue
public import proofs.«01_k».proof.Proof.Softmax
public import proofs.«01_k».proof.Proof.Ref

@[expose] public section

noncomputable section

namespace Cert.KProof

open Cert.KernelIdeal Cert.KernelIdeal.Gen

open Idealize.ShloMosaic
open Idealize.ShloMosaic.TcCoe

/-- A maximum of finitely many reals, of at least one, is a real. -/
theorem fold_max_real {J : Type} [Fintype J] [Nonempty J] (f : J → EReal) (hf : ∀ j, ∃ r : ℝ, f j = r) :
    ∃ M : ℝ, Finset.univ.fold max ⊥ f = (M : EReal) := by
  have h1 : Finset.univ.fold max ⊥ f < ⊤ := (Finset.fold_max_lt _).2 ⟨bot_lt_top, fun j _ => by
    obtain ⟨r, hr⟩ := hf j; rw [hr]; exact EReal.coe_lt_top r⟩
  have h2 : ⊥ < Finset.univ.fold max ⊥ f := (Finset.lt_fold_max _).2 (.inr ⟨Classical.arbitrary J, Finset.mem_univ _, by
    obtain ⟨r, hr⟩ := hf (Classical.arbitrary J); rw [hr]; exact EReal.bot_lt_coe r⟩)
  exact ⟨_, (EReal.coe_toReal h1.ne h2.ne').symm⟩

/-- Key `j` of device `b` among all the keys. -/
abbrev row (b : Fin 4) (j : Fin 4096) : Fin 16384 := ⟨4096 * b.val + j.val, by omega⟩

/-- A sum over all the keys, device by device. -/
theorem sum_rows (f : Fin 16384 → EReal) : ∑ J, f J = ∑ b, ∑ j, f (row b j) := by
  rw [← (finProdFinEquiv (m := 4) (n := 4096)).sum_comp, Fintype.sum_prod_type]
  refine Finset.sum_congr rfl fun b _ => Finset.sum_congr rfl fun j _ => congrArg f ?_
  exact Fin.ext (by simp [finProdFinEquiv, Nat.add_comm])

/-- Row `j` of a device's block is row `row b j` of the whole array. -/
theorem headOf_block (A : Cert.ReferenceIdeal.S16384x8x128.Idx → EReal) (b : Fin 4) (h : Fin 8) (j : Fin 4096) (d : Fin 128) :
    headOf (F := Ideal) (Layout.block ⟨3, ![4096, 8, 128]⟩ ⟨3, ![16384, 8, 128]⟩ 0 4 b A) h (ix3 0 j d) = A (ix3 (row b j) h d) := by
  refine congrArg A (funext fun a => Fin.ext ?_)
  fin_cases a <;> simp [Layout.Tiles.idx_val, Nat.mul_comm]

section
variable (x : FVec Ideal S256x1024 .f32) (wq : FVec Ideal S1024x1024 .f32) (K V : Cert.ReferenceIdeal.S16384x8x128.Idx → EReal) (wo : FVec Ideal S1024x1024 .f32)
variable (xr : S256x1024.Idx → ℝ) (wr : S1024x1024.Idx → ℝ) (kr : Cert.ReferenceIdeal.S16384x8x128.Idx → ℝ)

/-- A score, as a real. -/
def sreal (h : Fin 8) (i : Fin 256) (b : Fin 4) (j : Fin 4096) : ℝ :=
  (∑ d : Fin 128, (∑ e : Fin 1024, xr (ix2 i e) * wr (ix2 e (hcol h d))) * kr (ix3 (row b j) h d)) * (Real.sqrt 128)⁻¹

variable (hx : ∀ i, x i = (xr i : EReal)) (hw : ∀ i, wq i = (wr i : EReal)) (hk : ∀ i, K i = (kr i : EReal))
include hx hw hk

theorem sc_real (h : Fin 8) (i : Fin 256) (b : Fin 4) (j : Fin 4096) :
    Ref.sc x wq K (ix3 h i (row b j)) = (sreal xr wr kr h i b j : EReal) := by
  rw [Ref.sc_apply, sreal, EReal.coe_mul, coe_sum']
  refine congrArg (· * _) (Finset.sum_congr rfl fun d _ => ?_)
  rw [hk, EReal.coe_mul, coe_sum']
  refine congrArg (· * _) (Finset.sum_congr rfl fun e _ => ?_)
  rw [hx, hw, EReal.coe_mul]

theorem score_real (h : Fin 8) (i : Fin 256) (b : Fin 4) (j : Fin 4096) :
    score h (k0_pay2 (F := Ideal) x wq) (headOf (F := Ideal) (Layout.block ⟨3, ![4096, 8, 128]⟩ ⟨3, ![16384, 8, 128]⟩ 0 4 b K) h) i j
      = (sreal xr wr kr h i b j : EReal) := by
  rw [score, sreal, Finset.sum_mul, coe_sum']
  refine Finset.sum_congr rfl fun d _ => ?_
  have e : (∑ e : Fin 1024, (x (ix2 i e) : EReal) * wq (ix2 e (hcol h d))) = ((∑ e : Fin 1024, xr (ix2 i e) * wr (ix2 e (hcol h d)) : ℝ) : EReal) := by
    rw [coe_sum']
    exact Finset.sum_congr rfl fun e _ => by rw [hx, hw, EReal.coe_mul]
  refine (congrArg₂ (· * ·) ((pay2_apply x wq i (hcol h d)).trans (congrArg (· * _) e)) ((headOf_block K b h j d).trans (hk _))).trans ?_
  rw [← EReal.coe_mul, ← EReal.coe_mul]
  exact congrArg _ (mul_right_comm _ _ _)

/-- The reference's attention output, with some real subtracted from the scores. -/
theorem att_real (h : Fin 8) (i : Fin 256) (d : Fin 128) : ∃ M : ℝ, Ref.att x wq K V (ix3 i h d)
    = Ideal.div (∑ b, ∑ j, V (ix3 (row b j) h d) * Ideal.exp ((sreal xr wr kr h i b j : EReal) - (M : EReal)))
        (∑ b, ∑ j, Ideal.exp ((sreal xr wr kr h i b j : EReal) - (M : EReal))) := by
  obtain ⟨M, hM⟩ := fold_max_real (fun J : Fin 16384 => (Ref.sc x wq K (ix3 h i J) : EReal)) fun J =>
    ⟨sreal xr wr kr h i ⟨J.val / 4096, by omega⟩ ⟨J.val % 4096, by omega⟩, by
      rw [← sc_real x wq K xr wr kr hx hw hk]
      exact congrArg (fun J => Ref.sc x wq K (ix3 h i J)) (Fin.ext (by show J.val = 4096 * (J.val / 4096) + J.val % 4096; omega))⟩
  refine ⟨M, ?_⟩
  rw [Ref.att_apply, sum_rows, sum_rows]
  simp only [Ref.pr_apply, Ref.mx_apply, hM, sc_real x wq K xr wr kr hx hw hk]

variable (m : (ℓ : Loc nD τ sig) → Buf (Elt Ideal) ℓ) (ρ : Dev nD → PrngReg)
variable (hmx : ∀ c, xv m ρ c = x) (hmw : ∀ c, wqv m ρ c = wq)
  (hmk : ∀ c, ka m ρ c = Layout.block ⟨3, ![4096, 8, 128]⟩ ⟨3, ![16384, 8, 128]⟩ 0 4 c K)
  (hmv : ∀ c, va m ρ c = Layout.block ⟨3, ![4096, 8, 128]⟩ ⟨3, ![16384, 8, 128]⟩ 0 4 c V)
  (hmo : ∀ c, wov m ρ c = wo)
include hmx hmw hmk hmv

/-- A merged head is the reference's attention output. -/
theorem headVal_eq (c : Dev nD) (h : Fin 8) (i : Fin 256) (d : Fin 128) : headVal m ρ c h i d = Ref.att x wq K V (ix3 i h d) := by
  obtain ⟨M, hM⟩ := att_real x wq K V xr wr kr hx hw hk h i d
  have hb : Function.Bijective (bk c) := by revert c; decide
  have eq : ∀ b, qb m ρ b = k0_pay2 (F := Ideal) x wq := fun b => congrArg₂ (k0_pay2 (F := Ideal)) (hmx b) (hmw b)
  have es : ∀ b j, score h (qb m ρ b) (kh m ρ b h) i j = (sreal xr wr kr h i b j : EReal) := fun b j =>
    (congrArg₂ (fun q k => score h q k i j) (eq b) (congrArg (fun A => headOf (F := Ideal) A h) (hmk b))).trans
      (score_real x wq K xr wr kr hx hw hk h i b j)
  have ev : ∀ b j, vh m ρ b h (ix3 0 j d) = V (ix3 (row b j) h d) := fun b j =>
    (congrArg (fun A => headOf (F := Ideal) A h (ix3 0 j d)) (hmv b)).trans (headOf_block V b h j d)
  have eo : ∀ b, oh m ρ b h (ix4 0 0 i d) = Ideal.div (∑ j, Ideal.exp (sreal xr wr kr h i b j : EReal) * V (ix3 (row b j) h d))
      (∑ j, Ideal.exp (sreal xr wr kr h i b j : EReal)) := fun b => by
    rw [oh_eq, headO_apply]
    exact congrArg₂ Ideal.div (Finset.sum_congr rfl fun j _ => congrArg₂ (· * ·) (congrArg Ideal.exp (es b j)) (ev b j))
      (Finset.sum_congr rfl fun j _ => congrArg Ideal.exp (es b j))
  have el : ∀ b, lh m ρ b h (ix3 0 0 i) = Ideal.log (∑ j, Ideal.exp (sreal xr wr kr h i b j : EReal)) := fun b => by
    rw [lh_eq, headG_apply]
    exact congrArg Ideal.log (Finset.sum_congr rfl fun j _ => congrArg Ideal.exp (es b j))
  refine Eq.trans ?_ ((softmax_pieces (fun b j => sreal xr wr kr h i b j) (fun b j => V (ix3 (row b j) h d)) (Equiv.ofBijective (bk c) hb) M).trans hM.symm)
  exact Finset.sum_congr rfl fun s _ => congrArg₂ (· * ·) (eo (bk c s)) (congrArg (fun l => wt l s) (funext fun s => el (bk c s)))

include hmo
/-- The kernel's result on every device is the reference's. -/
theorem outAt_eq (c : Dev nD) : outAt m ρ c = Ref.out x wq K V wo := by
  funext i
  obtain ⟨i, n, rfl⟩ : ∃ (a : Fin 256) (b : Fin 1024), i = ix2 a b := ⟨i 0, i 1, eq_ix2 i⟩
  rw [outAt_apply, Ref.out_apply]
  refine Finset.sum_congr rfl fun h _ => Finset.sum_congr rfl fun d _ => ?_
  rw [headVal_eq x wq K V xr wr kr hx hw hk m ρ hmx hmw hmk hmv, hmo]
end

end Cert.KProof
end
-- ==== Proof.Whole.lean ====
/- The arrays as wholes, and what the precondition gives: on every device the queries, the query projection and
   the keys hold real numbers. With them the kernel's result array is the reference's result. -/
module

public import proofs.«01_k».proof.Proof.Run
public import proofs.«01_k».proof.Proof.Equal
public import proofs.«01_k».proof.Proof.Gen.Pre_scores_finite_KernelIdeal
public import Idealize.ShloMosaic.Lib.ReduceAll

@[expose] public section

noncomputable section

namespace Cert.KProof
open Cert.KernelIdeal Cert.KernelIdeal.Gen

open Idealize.ShloMosaic
open Idealize.ShloMosaic.TcCoe

section Arrays
variable (m : (ℓ : Loc nD τ sig) → Buf (Elt Ideal) ℓ) (ρ : Dev nD → PrngReg)

/-- Each window's block is its whole array. -/
theorem xv_eq (c : Dev nD) : xv m ρ c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem wqv_eq (c : Dev nD) : wqv m ρ c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem wov_eq (c : Dev nD) : wov m ρ c = m ((c : Thread nD τ).loc main_arg4) := by
  have hz : (fun a => (win0_2.index (0 : Fin 1)) a * main_arg4.ty.shape.size a) = fun _ => 0 := funext fun a => by fin_cases a <;> decide
  exact Memref.read_access_unit_zero (Elt Ideal) main_arg4 hz (fun a => by fin_cases a <;> decide) _
theorem finalA_result (c : Dev nD) : finalA m ρ c (3 : Fin 4) = outAt m ρ c := by
  have hz : (fun a => (win0_3.index (0 : Fin 1)) a * main_v1.ty.shape.size a) = fun _ => 0 := funext fun a => by fin_cases a <;> decide
  exact (Memref.read_access_unit_zero (Elt Ideal) main_v1 hz (fun a => by fin_cases a <;> decide) _).symm.trans (finalA_out m ρ c)
end Arrays

/-- A comparison of a magnitude with +∞ that holds is of a real number. -/
theorem real_of_lt (a : EReal) (h : FloatOps.cmpf (F := Ideal) (φ := .f32) .olt (FloatOps.absf (F := Ideal) (φ := .f32) a) (FloatOps.ofBits (F := Ideal) .f32 0x7F800000#32) = 1#1) :
    a = (a.toReal : EReal) := by
  have e : Ideal.ofBits .f32 0x7F800000#32 = ⊤ := by simp [Ideal.ofBits, Ideal.ieee]
  have h' : BitVec.ofBool (decide (max a (-a) < Ideal.ofBits .f32 0x7F800000#32)) = 1#1 := h
  rw [e] at h'
  have l : max a (-a) < ⊤ := by
    by_contra hn
    rw [decide_eq_false hn] at h'
    exact absurd h' (by decide)
  refine (EReal.coe_toReal (fun h => ?_) fun h => ?_).symm
  · subst h; simp at l
  · subst h; simp at l

instance : Subsingleton Cert.Pre_scores_finite_KernelIdeal.S_.Idx := ⟨fun _ _ => funext fun a => a.elim0⟩

section Pre
open Cert.Pre_scores_finite_KernelIdeal (fn)
variable (x : FVec Ideal S256x1024 .f32) (wq : FVec Ideal S1024x1024 .f32) (k v : FVec Ideal S4096x8x128 .f32) (wo : FVec Ideal S1024x1024 .f32)

/-- The precondition of one device: its queries, query projection and keys are real numbers. -/
theorem real_of_pre (h : fn (F := Ideal) x wq k v wo = fun _ => 1#1) :
    (∀ i, x i = ((x i).toReal : EReal)) ∧ (∀ i, wq i = ((wq i).toReal : EReal)) ∧ ∀ i, k i = ((k i).toReal : EReal) := by
  have h0 := congrFun h (fun a => a.elim0)
  obtain ⟨h1, hk⟩ := IntOp.andi_eq_one.1 h0
  obtain ⟨hx, hw⟩ := IntOp.andi_eq_one.1 h1
  exact ⟨fun i => real_of_lt _ (Host.reduce_andi_all _ _ _ _ _ hx i), fun i => real_of_lt _ (Host.reduce_andi_all _ _ _ _ _ hw i),
    fun i => real_of_lt _ (Host.reduce_andi_all _ _ _ _ _ hk i)⟩
end Pre

/-- An element of the whole keys is an element of some device's block. -/
theorem block_elem (K : Cert.ReferenceIdeal.S16384x8x128.Idx → EReal) (i : Cert.ReferenceIdeal.S16384x8x128.Idx) :
    ∃ (c : Fin 4) (j : S4096x8x128.Idx), Layout.block ⟨3, ![4096, 8, 128]⟩ ⟨3, ![16384, 8, 128]⟩ 0 4 c K (h := by decide) j = K i := by
  obtain ⟨J, h, d, rfl⟩ : ∃ (J : Fin 16384) (h : Fin 8) (d : Fin 128), i = ix3 J h d := ⟨i 0, i 1, i 2, eq_ix3 i⟩
  obtain ⟨b, j, rfl⟩ : ∃ (b : Fin 4) (j : Fin 4096), J = row b j :=
    ⟨⟨J.val / 4096, by omega⟩, ⟨J.val % 4096, by omega⟩, Fin.ext (by show J.val = 4096 * (J.val / 4096) + J.val % 4096; omega)⟩
  exact ⟨b, _, headOf_block K b h j d⟩

end Cert.KProof
end
-- ==== Proof.lean ====
/-
  The certificate of cross attention with the keys and values cut over four devices. The run of the four kernels is
  Proof/Run.lean's `run_main`, written once for any float values: the frame of the printed kernel is its instance at the
  bit patterns, that of the idealized kernel its instance at the extended reals. The reference's run is generated.
  The results agree where the scores are finite: Proof/Equal.lean and Proof/Whole.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Run
public import proofs.«01_k».proof.Proof.Whole
public import Idealize.ShloMosaic.Adequacy
public import Idealize.ShloMosaic.Init

@[expose] public section

noncomputable section

namespace Cert.Proof

open Idealize.ShloMosaic Idealize.SL.Sem Cert.Kernel

/-- A named constant at the bit patterns is its bit pattern. -/
instance : Named Bits := ⟨fun _ _ {φ} b => Scalar.ofBits φ b⟩

/-- The two printed body tables are one: their single body has the same text. -/
theorem defs₀_eq : Kernel.defs₀ (F := Bits) = KernelIdeal.defs₀ (F := Bits) :=
  congrArg (Defs.onTc (nD := Kernel.nD) (τ := Kernel.τ) (sig := Kernel.sig) (Λ := Kernel.Λ₀)) (funext fun ℓ => by
    obtain rfl : ℓ = (0 : Fin 1) := Subsingleton.elim (α := Fin 1) _ _
    rfl)

theorem defs_eq : Kernel.defs (F := Bits) = KernelIdeal.defs (F := Bits) :=
  congrArg (Pipeline.defs (Kernel.pcfgs (F := Bits))) defs₀_eq

/-- The printed kernel's frame: the run at the bit patterns with the values dropped. -/
theorem frame_kernel : Cert.quiescent_Kernel := fun m ρ _ => by
  have h := KProof.frame_run (F := Bits) m ρ
  rw [← defs_eq] at h
  exact h

/-- The idealized kernel's frame: the same run at the extended reals. -/
theorem frame_ideal : Cert.quiescent_KernelIdeal := fun m ρ _ => KProof.frame_run (F := Ideal) m ρ

/-- The reference's frame: its generated run with the value dropped; it declares no semaphore. -/
theorem frame_reference : Cert.quiescent_ReferenceIdeal := fun m ρ _ =>
  (θ_run Cert.ReferenceIdeal.defs _ _).mono
    (fun r h => ⟨fun c => (by obtain rfl : c = 0 := Subsingleton.elim _ _; exact (h 0).2), sem_eq_zero_of_no_sems (by decide) r.2⟩)
    (Cert.ReferenceIdeal.Value.run (F := Ideal) m ρ)

/-- The name's value is the one the table gives. -/
theorem preserves : Cert.preserves_Kernel_KernelIdeal := IdealRules.named_const.statement _ _ _ _ _ rfl

/-- Where the queries, the query projection and the keys are finite, every device's result is the reference's. -/
theorem algebraic : Cert.algebraic_KernelIdeal_ReferenceIdeal_pre_scores_finite_KernelIdeal := fun m g m' g' hpre harg => by
  have hreal := fun c => KProof.real_of_pre _ _ _ _ _ (hpre c)
  have hx := (hreal 0).1
  have hw := (hreal 0).2.1
  rw [(harg 0).1] at hx
  rw [(harg 0).2.1] at hw
  have hk : ∀ i, m' (((0 : Dev Cert.ReferenceIdeal.nD).tc : Thread Cert.ReferenceIdeal.nD Cert.ReferenceIdeal.τ).loc Cert.ReferenceIdeal.main_arg2) i
      = ((EReal.toReal (m' (((0 : Dev Cert.ReferenceIdeal.nD).tc : Thread Cert.ReferenceIdeal.nD Cert.ReferenceIdeal.τ).loc Cert.ReferenceIdeal.main_arg2) i) : ℝ) : EReal) := fun i => by
    obtain ⟨c, j, e⟩ := KProof.block_elem (m' (((0 : Dev Cert.ReferenceIdeal.nD).tc : Thread Cert.ReferenceIdeal.nD Cert.ReferenceIdeal.τ).loc Cert.ReferenceIdeal.main_arg2)) i
    have := (hreal c).2.2 j
    rw [(harg c).2.2.1] at this
    rw [← e]
    exact this
  have hout := KProof.outAt_eq _ _ _ _ _ _ _ _ hx hw hk m g (fun c => (KProof.xv_eq m g c).trans (harg c).1)
    (fun c => (KProof.wqv_eq m g c).trans (harg c).2.1) (fun c => (harg c).2.2.1) (fun c => (harg c).2.2.2.1)
    (fun c => (KProof.wov_eq m g c).trans (harg c).2.2.2.2)
  refine ⟨_, (θ_run _ _ _).mono (fun r h c => ⟨(((h.1 c).1 (3 : Fin 4)).trans (KProof.finalA_result m g c)).trans (hout c),
      ((h.1 c).1 (0 : Fin 4)).trans (KProof.finalA_x m g c), ((h.1 c).1 (1 : Fin 4)).trans (KProof.finalA_wq m g c),
      (h.1 c).2.1, (h.1 c).2.2, ((h.1 c).1 (2 : Fin 4)).trans (KProof.finalA_wo m g c)⟩) (KProof.run_main (F := Ideal) m g),
    (θ_run _ _ _).mono (fun r h => h 0) (KProof.Ref.run m' g')⟩

theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  frame_kernel, frame_ideal, fun m g _ => frame_ideal m g trivial, frame_reference, fun m g _ => frame_reference m g trivial, preserves, algebraic⟩

end Cert.Proof

end
